-- ==== Defs.lean ====
def Pre_Kernel [hPre_ids_in_tables : Cert.Pre_ids_in_tables.Facts] (m : (ℓ : Loc Cert.Kernel.nD Cert.Kernel.τ Cert.Kernel.sig) → Buf (Elt Bits) ℓ) : Prop :=
  ∀ c : Dev Cert.Kernel.nD,
    (Cert.Pre_ids_in_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_ids_in_tables : Cert.Pre_ids_in_tables.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_ids_in_tables_seg0_finite [hPre_ids_in_tables_seg0_finite : Cert.Pre_ids_in_tables_seg0_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_tables_seg0_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_tables_seg0_finite [hPre_ids_in_tables_seg0_finite : Cert.Pre_ids_in_tables_seg0_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_tables_seg0_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_ids_in_tables : Cert.Pre_ids_in_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_ids_in_tables : Cert.Pre_ids_in_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_ids_in_tables_seg0_finite [hKernelIdeal : Cert.KernelIdeal.Facts] [hPre_ids_in_tables_seg0_finite : Cert.Pre_ids_in_tables_seg0_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_tables_seg0_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ids_in_tables_seg0_finite [hReferenceIdeal : Cert.ReferenceIdeal.Facts] [hPre_ids_in_tables_seg0_finite : Cert.Pre_ids_in_tables_seg0_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_tables_seg0_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_ids_in_tables_seg0_finite [hKernelIdeal : Cert.KernelIdeal.Facts] [hReferenceIdeal : Cert.ReferenceIdeal.Facts] [hPre_ids_in_tables_seg0_finite : Cert.Pre_ids_in_tables_seg0_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_tables_seg0_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ids_in_tables : Cert.Pre_ids_in_tables.Facts) (hPre_ids_in_tables_seg0_finite : Cert.Pre_ids_in_tables_seg0_finite.Facts),
    quiescent_Kernel (hKernel := hKernel) (hPre_ids_in_tables := hPre_ids_in_tables)
    ∧ quiescent_KernelIdeal (hKernelIdeal := hKernelIdeal) (hPre_ids_in_tables := hPre_ids_in_tables)
    ∧ quiescent_KernelIdeal_pre_ids_in_tables_seg0_finite (hKernelIdeal := hKernelIdeal) (hPre_ids_in_tables_seg0_finite := hPre_ids_in_tables_seg0_finite)
    ∧ quiescent_ReferenceIdeal (hReferenceIdeal := hReferenceIdeal)
    ∧ quiescent_ReferenceIdeal_pre_ids_in_tables_seg0_finite (hReferenceIdeal := hReferenceIdeal) (hPre_ids_in_tables_seg0_finite := hPre_ids_in_tables_seg0_finite)
    ∧ preserves_Kernel_KernelIdeal
    ∧ algebraic_KernelIdeal_ReferenceIdeal_pre_ids_in_tables_seg0_finite (hKernelIdeal := hKernelIdeal) (hReferenceIdeal := hReferenceIdeal) (hPre_ids_in_tables_seg0_finite := hPre_ids_in_tables_seg0_finite)
-- ==== Pre_ids_in_tables.lean ====
abbrev S1024x200 : Shape := ⟨2, ![1024, 200]⟩
abbrev S100000x128 : Shape := ⟨2, ![100000, 128]⟩
abbrev S2x128 : Shape := ⟨2, ![2, 128]⟩
abbrev S120x128 : Shape := ⟨2, ![120, 128]⟩
abbrev S512x128 : Shape := ⟨2, ![512, 128]⟩
abbrev S128 : Shape := ⟨1, ![128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn_part1 {F : FTy → Type} [FloatOps F] (main_arg2 : IVec S1024x200 32) (main_arg3 : IVec S1024x200 32) (main_v12 : IVec S_ 1) (main_v14 : IVec S1024x200 1) (main_v15 : IVec S1024x200 32) : IVec S_ 1 :=
  let main_v16 : IVec S1024x200 1 := cmpi .slt main_arg2 main_v15
  let main_v17 : IVec S1024x200 1 := andi main_v14 main_v16
  let main_c_7 : IVec S_ 1 := constantI S_ 1 1#1
  let main_v18 : IVec S_ 1 := (fun x v => Host.reduce IntOp.andi x v reducesTo_S1024x200_S_d0_1 h_S_) main_v17 main_c_7
  let main_v19 : IVec S_ 1 := andi main_v12 main_v18
  let main_c_8 : IVec S_ 32 := constantI S_ 32 0#32
  let main_v20 : IVec S1024x200 32 := broadcastInDim S1024x200 ![] bcast_S_S1024x200 main_c_8
  let main_v21 : IVec S1024x200 1 := cmpi .sge main_arg3 main_v20
  let main_c_9 : IVec S_ 32 := constantI S_ 32 512#32
  let main_v22 : IVec S1024x200 32 := broadcastInDim S1024x200 ![] bcast_S_S1024x200 main_c_9
  let main_v23 : IVec S1024x200 1 := cmpi .slt main_arg3 main_v22
  let main_v24 : IVec S1024x200 1 := andi main_v21 main_v23
  let main_c_10 : IVec S_ 1 := constantI S_ 1 1#1
  let main_v25 : IVec S_ 1 := (fun x v => Host.reduce IntOp.andi x v reducesTo_S1024x200_S_d0_1 h_S_) main_v24 main_c_10
  let main_v26 : IVec S_ 1 := andi main_v19 main_v25
  main_v26

def fn {F : FTy → Type} [FloatOps F] (main_arg0 : IVec S1024x200 32) (main_arg1 : IVec S1024x200 32) (main_arg2 : IVec S1024x200 32) (main_arg3 : IVec S1024x200 32) (main_arg4 : FVec F S100000x128 .f32) (main_arg5 : FVec F S2x128 .f32) (main_arg6 : FVec F S120x128 .f32) (main_arg7 : FVec F S512x128 .f32) (main_arg8 : FVec F S128 .f32) (main_arg9 : FVec F S128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_c_2 : IVec S_ 32 := constantI S_ 32 0#32
  let main_v6 : IVec S1024x200 32 := broadcastInDim S1024x200 ![] bcast_S_S1024x200 main_c_2
  let main_v7 : IVec S1024x200 1 := cmpi .sge main_arg1 main_v6
  let main_c_3 : IVec S_ 32 := constantI S_ 32 120#32
  let main_v8 : IVec S1024x200 32 := broadcastInDim S1024x200 ![] bcast_S_S1024x200 main_c_3
  let main_v9 : IVec S1024x200 1 := cmpi .slt main_arg1 main_v8
  let main_v10 : IVec S1024x200 1 := andi main_v7 main_v9
  let main_c_4 : IVec S_ 1 := constantI S_ 1 1#1
  let main_v11 : IVec S_ 1 := (fun x v => Host.reduce IntOp.andi x v reducesTo_S1024x200_S_d0_1 h_S_) main_v10 main_c_4
  let main_v12 : IVec S_ 1 := andi main_v5 main_v11
  let main_c_5 : IVec S_ 32 := constantI S_ 32 0#32
  let main_v13 : IVec S1024x200 32 := broadcastInDim S1024x200 ![] bcast_S_S1024x200 main_c_5
  let main_v14 : IVec S1024x200 1 := cmpi .sge main_arg2 main_v13
  let main_c_6 : IVec S_ 32 := constantI S_ 32 2#32
  let main_v15 : IVec S1024x200 32 := broadcastInDim S1024x200 ![] bcast_S_S1024x200 main_c_6
  fn_part1 (F := F) main_arg2 main_arg3 main_v12 main_v14 main_v15
-- ==== Pre_ids_in_tables_seg0_finite.lean ====
abbrev S1024x200 : Shape := ⟨2, ![1024, 200]⟩
abbrev S100000x128 : Shape := ⟨2, ![100000, 128]⟩
abbrev S2x128 : Shape := ⟨2, ![2, 128]⟩
abbrev S120x128 : Shape := ⟨2, ![120, 128]⟩
abbrev S512x128 : Shape := ⟨2, ![512, 128]⟩
abbrev S128 : Shape := ⟨1, ![128]⟩
abbrev S_ : Shape := ⟨0, ![]⟩
abbrev S1x128 : Shape := ⟨2, ![1, 128]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel
  slices_S2x128_S1x128_0_0 : S2x128.Slices ![0, 0] S1x128
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg2 : IVec S1024x200 32) (main_arg3 : IVec S1024x200 32) (main_arg5 : FVec F S2x128 .f32) (main_v12 : IVec S_ 1) (main_v14 : IVec S1024x200 1) (main_v15 : IVec S1024x200 32) : IVec S_ 1 :=
  let main_v16 : IVec S1024x200 1 := cmpi .slt main_arg2 main_v15
  let main_v17 : IVec S1024x200 1 := andi main_v14 main_v16
  let main_c_7 : IVec S_ 1 := constantI S_ 1 1#1
  let main_v18 : IVec S_ 1 := (fun x v => Host.reduce IntOp.andi x v reducesTo_S1024x200_S_d0_1 h_S_) main_v17 main_c_7
  let main_v19 : IVec S_ 1 := andi main_v12 main_v18
  let main_c_8 : IVec S_ 32 := constantI S_ 32 0#32
  let main_v20 : IVec S1024x200 32 := broadcastInDim S1024x200 ![] bcast_S_S1024x200 main_c_8
  let main_v21 : IVec S1024x200 1 := cmpi .sge main_arg3 main_v20
  let main_c_9 : IVec S_ 32 := constantI S_ 32 512#32
  let main_v22 : IVec S1024x200 32 := broadcastInDim S1024x200 ![] bcast_S_S1024x200 main_c_9
  let main_v23 : IVec S1024x200 1 := cmpi .slt main_arg3 main_v22
  let main_v24 : IVec S1024x200 1 := andi main_v21 main_v23
  let main_c_10 : IVec S_ 1 := constantI S_ 1 1#1
  let main_v25 : IVec S_ 1 := (fun x v => Host.reduce IntOp.andi x v reducesTo_S1024x200_S_d0_1 h_S_) main_v24 main_c_10
  let main_v26 : IVec S_ 1 := andi main_v19 main_v25
  let main_v27 : FVec F S1x128 .f32 := (extractStridedSlice S1x128 ![0, 0] · slices_S2x128_S1x128_0_0) main_arg5
  let main_v28 : FVec F S1x128 .f32 := Host.absf main_v27
  let main_cst : FVec F S_ .f32 := constant S_ .f32 0x7F800000#32
  let main_v29 : FVec F S1x128 .f32 := broadcastInDim S1x128 ![] bcast_S_S1x128 main_cst
  let main_v30 : IVec S1x128 1 := cmpf .olt main_v28 main_v29
  let main_c_11 : IVec S_ 1 := constantI S_ 1 1#1
  let main_v31 : IVec S_ 1 := (fun x v => Host.reduce IntOp.andi x v reducesTo_S1x128_S_d0_1 h_S_) main_v30 main_c_11
  let main_v32 : IVec S_ 1 := andi main_v26 main_v31
  main_v32

def fn {F : FTy → Type} [FloatOps F] (main_arg0 : IVec S1024x200 32) (main_arg1 : IVec S1024x200 32) (main_arg2 : IVec S1024x200 32) (main_arg3 : IVec S1024x200 32) (main_arg4 : FVec F S100000x128 .f32) (main_arg5 : FVec F S2x128 .f32) (main_arg6 : FVec F S120x128 .f32) (main_arg7 : FVec F S512x128 .f32) (main_arg8 : FVec F S128 .f32) (main_arg9 : FVec F S128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_c_2 : IVec S_ 32 := constantI S_ 32 0#32
  let main_v6 : IVec S1024x200 32 := broadcastInDim S1024x200 ![] bcast_S_S1024x200 main_c_2
  let main_v7 : IVec S1024x200 1 := cmpi .sge main_arg1 main_v6
  let main_c_3 : IVec S_ 32 := constantI S_ 32 120#32
  let main_v8 : IVec S1024x200 32 := broadcastInDim S1024x200 ![] bcast_S_S1024x200 main_c_3
  let main_v9 : IVec S1024x200 1 := cmpi .slt main_arg1 main_v8
  let main_v10 : IVec S1024x200 1 := andi main_v7 main_v9
  let main_c_4 : IVec S_ 1 := constantI S_ 1 1#1
  let main_v11 : IVec S_ 1 := (fun x v => Host.reduce IntOp.andi x v reducesTo_S1024x200_S_d0_1 h_S_) main_v10 main_c_4
  let main_v12 : IVec S_ 1 := andi main_v5 main_v11
  let main_c_5 : IVec S_ 32 := constantI S_ 32 0#32
  let main_v13 : IVec S1024x200 32 := broadcastInDim S1024x200 ![] bcast_S_S1024x200 main_c_5
  let main_v14 : IVec S1024x200 1 := cmpi .sge main_arg2 main_v13
  let main_c_6 : IVec S_ 32 := constantI S_ 32 2#32
  let main_v15 : IVec S1024x200 32 := broadcastInDim S1024x200 ![] bcast_S_S1024x200 main_c_6
  fn_part1 (F := F) main_arg2 main_arg3 main_arg5 main_v12 main_v14 main_v15
-- ==== Kernel.lean ====
abbrev S1024x200 : Shape := ⟨2, ![1024, 200]⟩
abbrev S100000x128 : Shape := ⟨2, ![100000, 128]⟩
abbrev S2x128 : Shape := ⟨2, ![2, 128]⟩
abbrev S120x128 : Shape := ⟨2, ![120, 128]⟩
abbrev S512x128 : Shape := ⟨2, ![512, 128]⟩
abbrev S128 : Shape := ⟨1, ![128]⟩
abbrev S204800 : Shape := ⟨1, ![204800]⟩
abbrev S1x204800 : Shape := ⟨2, ![1, 204800]⟩
abbrev S204800x128 : Shape := ⟨2, ![204800, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S400x1x512 : Shape := ⟨3, ![400, 1, 512]⟩
abbrev S1x1x512 : Shape := ⟨3, ![1, 1, 512]⟩
abbrev S512 : Shape := ⟨1, ![512]⟩
abbrev S512x512 : Shape := ⟨2, ![512, 512]⟩
abbrev S512x1 : Shape := ⟨2, ![512, 1]⟩
abbrev S1024x200x128 : Shape := ⟨3, ![1024, 200, 128]⟩

abbrev nBuf : Table → Nat
  | .hbm => 34
  | .local .tc .vmem => 11
  | .local .scVector .vmem => 2
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S1024x200, .i32⟩
  | .hbm, ⟨3, _⟩ => ⟨S1024x200, .i32⟩
  | .hbm, ⟨4, _⟩ => ⟨S100000x128, .f32⟩
  | .hbm, ⟨5, _⟩ => ⟨S2x128, .f32⟩
  | .hbm, ⟨6, _⟩ => ⟨S120x128, .f32⟩
  | .hbm, ⟨7, _⟩ => ⟨S512x128, .f32⟩
  | .hbm, ⟨8, _⟩ => ⟨S128, .f32⟩
  | .hbm, ⟨9, _⟩ => ⟨S128, .f32⟩
  | .hbm, ⟨10, _⟩ => ⟨S204800, .i32⟩
  | .hbm, ⟨11, _⟩ => ⟨S1x204800, .i32⟩
  | .hbm, ⟨12, _⟩ => ⟨S204800x128, .f32⟩
  | .hbm, ⟨13, _⟩ => ⟨S_, .i32⟩
  | .hbm, ⟨14, _⟩ => ⟨S1024x200, .i32⟩
  | .hbm, ⟨15, _⟩ => ⟨S1024x200, .i32⟩
  | .hbm, ⟨16, _⟩ => ⟨S1024x200, .i32⟩
  | .hbm, ⟨17, _⟩ => ⟨S_, .i32⟩
  | .hbm, ⟨18, _⟩ => ⟨S1024x200, .i32⟩
  | .hbm, ⟨19, _⟩ => ⟨S1024x200, .i32⟩
  | .hbm, ⟨20, _⟩ => ⟨S1024x200, .i32⟩
  | .hbm, ⟨21, _⟩ => ⟨S204800, .i32⟩
  | .hbm, ⟨22, _⟩ => ⟨S512x128, .bf16⟩
  | .hbm, ⟨23, _⟩ => ⟨S_, .bf16⟩
  | .hbm, ⟨24, _⟩ => ⟨S128x128, .bf16⟩
  | .hbm, ⟨25, _⟩ => ⟨S120x128, .bf16⟩
  | .hbm, ⟨26, _⟩ => ⟨S_, .i32⟩
  | .hbm, ⟨27, _⟩ => ⟨S1, .i32⟩
  | .hbm, ⟨28, _⟩ => ⟨S128x128, .bf16⟩
  | .hbm, ⟨29, _⟩ => ⟨S400x1x512, .i32⟩
  | .hbm, ⟨30, _⟩ => ⟨S1x128, .f32⟩
  | .hbm, ⟨31, _⟩ => ⟨S1x128, .f32⟩
  | .hbm, ⟨32, _⟩ => ⟨S204800x128, .f32⟩
  | .hbm, ⟨33, _⟩ => ⟨S1024x200x128, .f32⟩
  | .local .tc .vmem, ⟨0, _⟩ => ⟨S1x1x512, .i32⟩
  | .local .tc .vmem, ⟨1, _⟩ => ⟨S1x1x512, .i32⟩
  | .local .tc .vmem, ⟨2, _⟩ => ⟨S512x128, .f32⟩
  | .local .tc .vmem, ⟨3, _⟩ => ⟨S512x128, .f32⟩
  | .local .tc .vmem, ⟨4, _⟩ => ⟨S512x128, .bf16⟩
  | .local .tc .vmem, ⟨5, _⟩ => ⟨S128x128, .bf16⟩
  | .local .tc .vmem, ⟨6, _⟩ => ⟨S2x128, .f32⟩
  | .local .tc .vmem, ⟨7, _⟩ => ⟨S1x128, .f32⟩
  | .local .tc .vmem, ⟨8, _⟩ => ⟨S1x128, .f32⟩
  | .local .tc .vmem, ⟨9, _⟩ => ⟨S512x128, .f32⟩
  | .local .tc .vmem, ⟨10, _⟩ => ⟨S512x128, .f32⟩
  | .local .scVector .vmem, ⟨0, _⟩ => ⟨S2x1x128, .i32⟩
  | .local .scVector .vmem, ⟨1, _⟩ => ⟨S2x128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_arg4_scv : Ref sig .scVector := ⟨.hbm, 4, rfl⟩
abbrev main_v1_scv : Ref sig .scVector := ⟨.hbm, 11, rfl⟩
abbrev main_v2_scv : Ref sig .scVector := ⟨.hbm, 12, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg7_1 : Ref sig .tc := ⟨.vmem, 10, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c50_i32_27_r0 : BitVec 32 := 50#32
  let v32_r0 : BitVec 32 := Scalar.addi c0_i32_26_r0 c50_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c49_i32_68_r0 : BitVec 32 := 49#32
  let v83_r0 : BitVec 1 := Scalar.cmpi .sge arg5_r0 c49_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c49_i32_55_r0 : BitVec 32 := 49#32
  let v65_r0 : BitVec 1 := Scalar.cmpi .eq arg5_r0 c49_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x204800.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x204800.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S204800x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S204800x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x204800.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x204800.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S204800x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S204800x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c49_i32_33_r0 : BitVec 32 := 49#32
  let v37_r0 : BitVec 32 := Scalar.select v36_r0 c49_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S204800x128.size a)
theorem k0_off19_inb : ∀ (i : grid0.Coords) (v33_4_r0 : BitVec 32) (k0_hw5 : k0_chk5 i v33_4_r0), ∀ a, (k0_off19 i v33_4_r0) a + S128x128.size a ≤ S204800x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨1, ![400], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x1x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S2x128 : Shape := ⟨2, ![2, 128]⟩
abbrev S120x128 : Shape := ⟨2, ![120, 128]⟩
abbrev S512x128 : Shape := ⟨2, ![512, 128]⟩
abbrev S128 : Shape := ⟨1, ![128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1x1x128 : Shape := ⟨3, ![1, 1, 128]⟩

abbrev nBuf : Space → Nat
  | .hbm => 134
  | .vmem => 0
  | .smem => 0
  | _ => 0

abbrev hbmTy0_0 (i : Nat) : BufTy := match i % 128 with
  | 0 => ⟨S1024x200, .i32⟩
  | 1 => ⟨S1024x200, .i32⟩
  | 2 => ⟨S1024x200, .i32⟩
  | 3 => ⟨S1024x200, .i32⟩
  | 4 => ⟨S100000x128, .f32⟩
  | 5 => ⟨S2x128, .f32⟩
  | 6 => ⟨S120x128, .f32⟩
  | 7 => ⟨S512x128, .f32⟩
  | 8 => ⟨S128, .f32⟩
  | 9 => ⟨S128, .f32⟩
  | 10 => ⟨S_, .i32⟩
  | 11 => ⟨S1024x200, .i32⟩
  | 12 => ⟨S1024x200, .i1⟩
  | 13 => ⟨S_, .i32⟩
  | 14 => ⟨S1024x200, .i32⟩
  | 15 => ⟨S1024x200, .i32⟩
  | 16 => ⟨S1024x200, .i32⟩
  | 17 => ⟨S1024x200x1, .i32⟩
  | 18 => ⟨S1, .i32⟩
  | 19 => ⟨S_, .i32⟩
  | 20 => ⟨S1024x200x1, .i32⟩
  | 21 => ⟨S1024x200x1, .i1⟩
  | 22 => ⟨S1x1x1, .i32⟩
  | 23 => ⟨S1024x200x1, .i32⟩
  | 24 => ⟨S1024x200x1, .i1⟩
  | 25 => ⟨S1024x200x1, .i1⟩
  | 26 => ⟨S_, .i1⟩
  | 27 => ⟨S1024x200, .i1⟩
  | 28 => ⟨S1024x200x128, .f32⟩
  | 29 => ⟨S1024x200x128, .i1⟩
  | 30 => ⟨S_, .f32⟩
  | 31 => ⟨S1024x200x128, .f32⟩
  | 32 => ⟨S1024x200x128, .f32⟩
  | 33 => ⟨S_, .i32⟩
  | 34 => ⟨S1024x200, .i32⟩
  | 35 => ⟨S1024x200, .i1⟩
  | 36 => ⟨S_, .i32⟩
  | 37 => ⟨S1024x200, .i32⟩
  | 38 => ⟨S1024x200, .i32⟩
  | 39 => ⟨S1024x200, .i32⟩
  | 40 => ⟨S1024x200x1, .i32⟩
  | 41 => ⟨S1, .i32⟩
  | 42 => ⟨S_, .i32⟩
  | 43 => ⟨S1024x200x1, .i32⟩
  | 44 => ⟨S1024x200x1, .i1⟩
  | 45 => ⟨S1x1x1, .i32⟩
  | 46 => ⟨S1024x200x1, .i32⟩
  | 47 => ⟨S1024x200x1, .i1⟩
  | 48 => ⟨S1024x200x1, .i1⟩
  | 49 => ⟨S_, .i1⟩
  | 50 => ⟨S1024x200, .i1⟩
  | 51 => ⟨S1024x200x128, .f32⟩
  | 52 => ⟨S1024x200x128, .i1⟩
  | 53 => ⟨S_, .f32⟩
  | 54 => ⟨S1024x200x128, .f32⟩
  | 55 => ⟨S1024x200x128, .f32⟩
  | 56 => ⟨S_, .i32⟩
  | 57 => ⟨S1024x200, .i32⟩
  | 58 => ⟨S1024x200, .i1⟩
  | 59 => ⟨S_, .i32⟩
  | 60 => ⟨S1024x200, .i32⟩
  | 61 => ⟨S1024x200, .i32⟩
  | 62 => ⟨S1024x200, .i32⟩
  | 63 => ⟨S1024x200x1, .i32⟩
  | 64 => ⟨S1, .i32⟩
  | 65 => ⟨S_, .i32⟩
  | 66 => ⟨S1024x200x1, .i32⟩
  | 67 => ⟨S1024x200x1, .i1⟩
  | 68 => ⟨S1x1x1, .i32⟩
  | 69 => ⟨S1024x200x1, .i32⟩
  | 70 => ⟨S1024x200x1, .i1⟩
  | 71 => ⟨S1024x200x1, .i1⟩
  | 72 => ⟨S_, .i1⟩
  | 73 => ⟨S1024x200, .i1⟩
  | 74 => ⟨S1024x200x128, .f32⟩
  | 75 => ⟨S1024x200x128, .i1⟩
  | 76 => ⟨S_, .f32⟩
  | 77 => ⟨S1024x200x128, .f32⟩
  | 78 => ⟨S1024x200x128, .f32⟩
  | 79 => ⟨S_, .i32⟩
  | 80 => ⟨S1024x200, .i32⟩
  | 81 => ⟨S1024x200, .i1⟩
  | 82 => ⟨S_, .i32⟩
  | 83 => ⟨S1024x200, .i32⟩
  | 84 => ⟨S1024x200, .i32⟩
  | 85 => ⟨S1024x200, .i32⟩
  | 86 => ⟨S1024x200x1, .i32⟩
  | 87 => ⟨S1, .i32⟩
  | 88 => ⟨S_, .i32⟩
  | 89 => ⟨S1024x200x1, .i32⟩
  | 90 => ⟨S1024x200x1, .i1⟩
  | 91 => ⟨S1x1x1, .i32⟩
  | 92 => ⟨S1024x200x1, .i32⟩
  | 93 => ⟨S1024x200x1, .i1⟩
  | 94 => ⟨S1024x200x1, .i1⟩
  | 95 => ⟨S_, .i1⟩
  | 96 => ⟨S1024x200, .i1⟩
  | 97 => ⟨S1024x200x128, .f32⟩
  | 98 => ⟨S1024x200x128, .i1⟩
  | 99 => ⟨S_, .f32⟩
  | 100 => ⟨S1024x200x128, .f32⟩
  | 101 => ⟨S1024x200x128, .f32⟩
  | 102 => ⟨S1024x200x128, .f32⟩
  | 103 => ⟨S1024x200x128, .f32⟩
  | 104 => ⟨S1024x200x128, .f32⟩
  | 105 => ⟨S_, .f32⟩
  | 106 => ⟨S1024x200, .f32⟩
  | 107 => ⟨S1024x200x1, .f32⟩
  | 108 => ⟨S_, .f32⟩
  | 109 => ⟨S1024x200x1, .f32⟩
  | 110 => ⟨S1024x200x1, .f32⟩
  | 111 => ⟨S1024x200x128, .f32⟩
  | 112 => ⟨S1024x200x128, .f32⟩
  | 113 => ⟨S1024x200x128, .f32⟩
  | 114 => ⟨S_, .f32⟩
  | 115 => ⟨S1024x200, .f32⟩
  | 116 => ⟨S1024x200x1, .f32⟩
  | 117 => ⟨S_, .f32⟩
  | 118 => ⟨S1024x200x1, .f32⟩
  | 119 => ⟨S1024x200x1, .f32⟩
  | 120 => ⟨S1024x200x128, .f32⟩
  | 121 => ⟨S1024x200x128, .f32⟩
  | 122 => ⟨S_, .f32⟩
  | 123 => ⟨S1024x200x1, .f32⟩
  | 124 => ⟨S1024x200x1, .f32⟩
  | 125 => ⟨S1024x200x1, .f32⟩
  | 126 => ⟨S1024x200x128, .f32⟩
  | 127 => ⟨S1024x200x128, .f32⟩
  | _ => ⟨S1024x200, .i32⟩

abbrev hbmTy0_1 (i : Nat) : BufTy := match i % 128 with
  | 0 => ⟨S1x1x128, .f32⟩
  | 1 => ⟨S1024x200x128, .f32⟩
  | 2 => ⟨S1024x200x128, .f32⟩
  | 3 => ⟨S1x1x128, .f32⟩
  | 4 => ⟨S1024x200x128, .f32⟩
  | 5 => ⟨S1024x200x128, .f32⟩
  | _ => ⟨S1024x200, .i32⟩

abbrev hbmTy (i : Nat) : BufTy := match i / 128 with
  | 0 => hbmTy0_0 i
  | 1 => hbmTy0_1 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v2 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_v14 : Ref sig .tc := ⟨.hbm, 98, rfl⟩
abbrev main_call3_cst : Ref sig .tc := ⟨.hbm, 99, rfl⟩
abbrev main_call3_v15 : Ref sig .tc := ⟨.hbm, 100, rfl⟩
abbrev main_v3 : Ref sig .tc := ⟨.hbm, 101, rfl⟩
abbrev main_v4 : Ref sig .tc := ⟨.hbm, 102, rfl⟩
abbrev main_v5 : Ref sig .tc := ⟨.hbm, 103, rfl⟩
abbrev main_v6 : Ref sig .tc := ⟨.hbm, 104, rfl⟩
abbrev main_cst : Ref sig .tc := ⟨.hbm, 105, rfl⟩
abbrev main_v7 : Ref sig .tc := ⟨.hbm, 106, rfl⟩
abbrev main_v8 : Ref sig .tc := ⟨.hbm, 107, rfl⟩
abbrev main_cst_0 : Ref sig .tc := ⟨.hbm, 108, rfl⟩
abbrev main_v9 : Ref sig .tc := ⟨.hbm, 109, rfl⟩
abbrev main_v10 : Ref sig .tc := ⟨.hbm, 110, rfl⟩
abbrev main_v11 : Ref sig .tc := ⟨.hbm, 111, rfl⟩
abbrev main_v12 : Ref sig .tc := ⟨.hbm, 112, rfl⟩
abbrev main_v13 : Ref sig .tc := ⟨.hbm, 113, rfl⟩
abbrev main_cst_1 : Ref sig .tc := ⟨.hbm, 114, rfl⟩
abbrev main_v14 : Ref sig .tc := ⟨.hbm, 115, rfl⟩
abbrev main_v15 : Ref sig .tc := ⟨.hbm, 116, rfl⟩
abbrev main_cst_2 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_v19 : Ref sig .tc := ⟨.hbm, 121, rfl⟩
abbrev main_cst_3 : Ref sig .tc := ⟨.hbm, 122, rfl⟩
abbrev main_v20 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩

abbrev nD : Nat := 1
abbrev τ : Topo := Topo.v7x

variable {F : FTy → Type} [FloatOps F]
-- ==== Proof.Setup.lean ====
/-
  The kernel's program as the launch theorem for SparseCore programs sees it, and the ghost state its proof carries: the
  handshakes' rounds, the rounds of the TensorCore region's pipeline, and the counters of the tiles' local transfers.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Setup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, and the pipeline's, in the whole. -/
abbrev EH : Emb UH (MT nD τ sig (HIx 1) (Elt F) ℕ UU ℕ) := embL
abbrev EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP (F := F)).LandsIn (upEmb : UEmb _ 𝕄) := inferInstance
instance EH_landsIn : (EH (F := F)).LandsIn (upEmb : UEmb _ 𝕄) := inferInstance

/-- The launch's ghost element splits into the handshakes' and the pipeline's. -/
theorem ownU_split (a : UH) (b : UP) :
    (ownU ((a, (b, (1 : Counters))) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op _)))

end Cert.Proof.Setup

end
-- ==== Proof.Words.lean ====
/-
  The integer words of the gather kernel on the vector subcores: at trip `t` of a tile's fifty, the five carried
  counters, the conditions the trip branches on, and the offsets of every slice it takes, each in closed form.
-/
module

public import proofs.«01_k».proof.Proof.Gen.KernelIdeal
public import proofs.«01_k».proof.Proof.Gen.KernelIdeal.Skeleton

@[expose] public section

noncomputable section

namespace Cert.Proof.Words

open Cert.KernelIdeal Cert.KernelIdeal.Gen Idealize.ShloMosaic

theorem trips_eq : k0_t1_loop.trips = 50 := by decide +kernel

/-- The number of the tile at grid coordinates `i`, and the first of its fifty blocks of 128 rows. -/
abbrev tileNo (i : grid0.Coords) : ℕ := 16 * (i 0).val + (i 1).val
abbrev blk (i : grid0.Coords) (k : ℕ) : ℕ := 50 * tileNo i + k

/-- The counters a trip carries: the next index copy's number, the current one's, the output copy's, the awaited output
    copy's, and the step. -/
def carry (t : ℕ) : BitVec 32 × BitVec 32 × BitVec 32 × BitVec 32 × BitVec 32 :=
  (BitVec.ofNat 32 (min (t + 1) 50), BitVec.ofNat 32 t, BitVec.ofNat 32 t, BitVec.ofNat 32 (t - 1), BitVec.ofNat 32 (t % 50))

theorem cond1_iff : ∀ (i : grid0.Coords) (t : Fin k0_t1_loop.trips),
    k0_cond1 i t (BitVec.ofNat 32 (t.val % 50)) = 1#1 ↔ t.val + 1 < 50 := by decide +kernel
theorem cond2_eq : ∀ (i : grid0.Coords) (t : Fin k0_t1_loop.trips), k0_cond2 i t (BitVec.ofNat 32 (t.val % 50)) = 1#1 := by decide +kernel
theorem cond5_eq : ∀ (i : grid0.Coords) (t : Fin k0_t1_loop.trips), k0_cond5 i t (BitVec.ofNat 32 (t.val % 50)) = 1#1 := by decide +kernel
theorem cond7_iff : ∀ (i : grid0.Coords) (t : Fin k0_t1_loop.trips),
    k0_cond7 i t (BitVec.ofNat 32 (t.val % 50)) = 1#1 ↔ 0 < t.val := by decide +kernel

theorem off4_eq : ∀ t : Fin k0_t1_loop.trips, t.val + 1 < 50 → k0_off4 (BitVec.ofNat 32 (min (t.val + 1) 50)) = ![(t.val + 1) % 2, 0, 0] := by decide +kernel
theorem off5_eq : ∀ (i : grid0.Coords) (t : Fin k0_t1_loop.trips), t.val + 1 < 50 →
    k0_off5 i (BitVec.ofNat 32 (t.val % 50)) = ![0, 128 * blk i (t.val + 1)] := by decide +kernel
theorem off6_eq : ∀ t : Fin k0_t1_loop.trips, t.val + 1 < 50 → k0_off6 (BitVec.ofNat 32 (min (t.val + 1) 50)) = ![(t.val + 1) % 2] := by decide +kernel
theorem off7_eq : ∀ t : Fin k0_t1_loop.trips, k0_off7 (BitVec.ofNat 32 t.val) = ![t.val % 2, 0, 0] := by decide +kernel
theorem off8_eq : ∀ (i : grid0.Coords) (t : Fin k0_t1_loop.trips), k0_off8 i (BitVec.ofNat 32 (t.val % 50)) = ![0, 128 * blk i t.val] := by decide +kernel
theorem off9_eq : ∀ t : Fin k0_t1_loop.trips, k0_off9 (BitVec.ofNat 32 t.val) = ![t.val % 2] := by decide +kernel
theorem off10_eq : ∀ t : Fin k0_t1_loop.trips, k0_off10 (BitVec.ofNat 32 t.val) = ![t.val % 2, 0, 0] := by decide +kernel
theorem off11_eq : ∀ t : Fin k0_t1_loop.trips, k0_off11 (BitVec.ofNat 32 t.val) = ![t.val % 2, 0, 0] := by decide +kernel
theorem off12_eq : ∀ t : Fin k0_t1_loop.trips, k0_off12 (BitVec.ofNat 32 t.val) = ![t.val % 2, 0, 0] := by decide +kernel
theorem off13_eq : ∀ (i : grid0.Coords) (t : Fin k0_t1_loop.trips), k0_off13 i (BitVec.ofNat 32 (t.val % 50)) = ![128 * blk i t.val, 0] := by decide +kernel
theorem off14_eq : ∀ t : Fin k0_t1_loop.trips, k0_off14 (BitVec.ofNat 32 t.val) = ![t.val % 2] := by decide +kernel
theorem off15_eq : ∀ t : Fin k0_t1_loop.trips, k0_off15 (BitVec.ofNat 32 (t.val - 1)) = ![(t.val - 1) % 2, 0, 0] := by decide +kernel
theorem off16_eq : ∀ (i : grid0.Coords) (t : Fin k0_t1_loop.trips), 0 < t.val →
    k0_off16 i (BitVec.ofNat 32 (t.val % 50)) = ![128 * blk i (t.val - 1), 0] := by decide +kernel
theorem off17_eq : ∀ t : Fin k0_t1_loop.trips, k0_off17 (BitVec.ofNat 32 (t.val - 1)) = ![(t.val - 1) % 2] := by decide +kernel
theorem off19_eq : ∀ i : grid0.Coords, k0_off19 i (BitVec.ofNat 32 0) = ![128 * blk i 49, 0] := by decide +kernel
theorem off20_eq : k0_off20 (BitVec.ofNat 32 49) = ![1] := by decide +kernel
theorem off21_eq : k0_off21 (BitVec.ofNat 32 49) = ![1, 0, 0] := by decide +kernel
theorem off2_eq : ∀ i : grid0.Coords, k0_off2 i = ![0, 128 * blk i 0] := by decide +kernel

theorem chk1 : ∀ (i : grid0.Coords) (t : Fin k0_t1_loop.trips), k0_chk1 i t (BitVec.ofNat 32 (min (t.val + 1) 50)) (BitVec.ofNat 32 t.val)
    (BitVec.ofNat 32 t.val) (BitVec.ofNat 32 (t.val - 1)) (BitVec.ofNat 32 (t.val % 50)) := by decide +kernel
theorem chk2 : ∀ t : Fin k0_t1_loop.trips, k0_chk2 (BitVec.ofNat 32 t.val) := by decide +kernel
theorem chk3 : ∀ t : Fin k0_t1_loop.trips, k0_chk3 (BitVec.ofNat 32 t.val) := by decide +kernel
theorem chk4 : k0_chk4 (BitVec.ofNat 32 49) := by decide +kernel
theorem chk5 : ∀ i : grid0.Coords, k0_chk5 i (BitVec.ofNat 32 0) := by decide +kernel

/-- The tile's first block number as the kernel computes it, and a trip's words: the first and the last trip's bits, the
    current block's number, the one before it and the one after it (both around the tile's fifty), and the next index copy's
    number for the next trip. -/
abbrev base (i : grid0.Coords) : BitVec 32 :=
  Scalar.muli (Scalar.addi (Scalar.addi 0#32 (Scalar.muli (BitVec.ofNat 32 (i 1).val) 1#32)) (Scalar.muli (BitVec.ofNat 32 (i 0).val) 16#32)) 50#32
abbrev trip (t : Fin k0_t1_loop.trips) : BitVec 32 := Scf.iv 0#32 1#32 t.val
abbrev isFirst (t : Fin k0_t1_loop.trips) : BitVec 1 := Scalar.cmpi .eq (trip t) 0#32
abbrev isLast (t : Fin k0_t1_loop.trips) : BitVec 1 := Scalar.cmpi .eq (trip t) 49#32
abbrev step (t : Fin k0_t1_loop.trips) : BitVec 32 := BitVec.ofNat 32 (t.val % 50)
abbrev cur (i : grid0.Coords) (t : Fin k0_t1_loop.trips) : BitVec 32 := Scalar.addi (step t) (base i)
abbrev back (t : Fin k0_t1_loop.trips) : BitVec 32 := Scalar.select 1#1 (Scalar.subi (step t) 1#32) (step t)
abbrev prev (i : grid0.Coords) (t : Fin k0_t1_loop.trips) : BitVec 32 :=
  Scalar.addi (Scalar.select (Scalar.cmpi .eq (back t) 4294967295#32) 49#32 (back t)) (base i)
abbrev fore (t : Fin k0_t1_loop.trips) : BitVec 32 := Scalar.select 1#1 (Scalar.addi (step t) 1#32) (step t)
abbrev next (i : grid0.Coords) (t : Fin k0_t1_loop.trips) : BitVec 32 :=
  Scalar.addi (Scalar.select (Scalar.cmpi .eq (fore t) 50#32) 0#32 (fore t)) (base i)
abbrev asked (i : grid0.Coords) (t : Fin k0_t1_loop.trips) : BitVec 32 :=
  Scalar.select (Scalar.andi (Scalar.andi (Scalar.cmpi .ne (cur i t) (next i t)) (Scalar.xori (Scalar.cmpi .sge (trip t) 49#32) 1#1)) 1#1)
    (Scalar.addi (BitVec.ofNat 32 (min (t.val + 1) 50)) 1#32) (BitVec.ofNat 32 (min (t.val + 1) 50))

/-- A trip's counters step to the next trip's. -/
theorem carry_step : ∀ (i : grid0.Coords) (t : Fin k0_t1_loop.trips),
    ((asked i t,
      Scalar.select (Scalar.ori (Scalar.cmpi .ne (cur i t) (next i t)) (isLast t)) (Scalar.addi (BitVec.ofNat 32 t.val) 1#32) (BitVec.ofNat 32 t.val),
      Scalar.select (Scalar.andi (Scalar.ori (Scalar.cmpi .ne (cur i t) (next i t)) (isLast t)) 1#1) (Scalar.addi (BitVec.ofNat 32 t.val) 1#32) (BitVec.ofNat 32 t.val),
      Scalar.select (Scalar.andi (Scalar.andi (Scalar.cmpi .ne (cur i t) (prev i t)) (Scalar.xori (isFirst t) 1#1)) 1#1)
        (Scalar.addi (BitVec.ofNat 32 (t.val - 1)) 1#32) (BitVec.ofNat 32 (t.val - 1)),
      Scalar.select (Scalar.cmpi .eq (fore t) 50#32) 0#32 (fore t)) : BitVec 32 × BitVec 32 × BitVec 32 × BitVec 32 × BitVec 32) = carry (t.val + 1) := by
  decide +kernel

/-- The counters the first trip starts from, and those the last leaves. -/
theorem carry_zero : ((Scalar.addi 0#32 1#32, 0#32, 0#32, 0#32, 0#32) : BitVec 32 × BitVec 32 × BitVec 32 × BitVec 32 × BitVec 32) = carry 0 := by decide +kernel
theorem carry_fifty : carry 50 = (50#32, 50#32, 50#32, 49#32, 0#32) := by decide +kernel

end Cert.Proof.Words

end
-- ==== Proof.Slots.lean ====
/-
  The slots and blocks the gather kernel's transfers name, and what each transfer leaves: a slot of the index ring after
  the copy of block `k`, a slot of the row ring after the gather of block `k`'s rows, and the block of the output after
  the copy out. Contents are stated as functions of the index list `I` and the table `T`, at buffer indices.
-/
module

public import proofs.«01_k».proof.Proof.Words
public import Idealize.ShloMosaic.Lib.SparseCore.Stream
public import Idealize.ShloMosaic.Lib.SparseCore.Ops
public import Idealize.ShloMosaic.Lib.ValueLayout
public import Idealize.ShloMosaic.Lib.ViewIndex

@[expose] public section

noncomputable section

namespace Cert.Proof.Slots

open Cert.KernelIdeal Cert.KernelIdeal.Gen Idealize.ShloMosaic Cert.Proof.Words
open Idealize.ShloMosaic.ValueIdx

variable {F : FTy → Type}

/-! ## The memrefs -/

abbrev tabV : Memref sig .scVector .hbm S100000x128 .f32 := Memref.whole main_arg4_scv
abbrev idxV : Memref sig .scVector .hbm S1x204800 .i32 := Memref.whole main_v1_scv
abbrev outV : Memref sig .scVector .hbm S204800x128 .f32 := Memref.whole main_v2_scv
abbrev iBuf : Memref sig .scVector .vmem S2x1x128 .i32 := Memref.whole cc0_scoped0
abbrev oBuf : Memref sig .scVector .vmem S2x128x128 .f32 := Memref.whole cc0_scoped2

theorem iSlot_inb (p : Fin 2) : ∀ a, (![p.val, 0, 0] : Fin 3 → ℕ) a + S1x1x128.size a ≤ S2x1x128.size a := by revert p; decide +kernel
theorem oSlot_inb (p : Fin 2) : ∀ a, (![p.val, 0, 0] : Fin 3 → ℕ) a + S1x128x128.size a ≤ S2x128x128.size a := by revert p; decide +kernel
theorem sem_inb (p : Fin 2) : ∀ a, (![p.val] : Fin 1 → ℕ) a + S1.size a ≤ S2.size a := by revert p; decide +kernel
theorem blk_lt (i : grid0.Coords) (k : Fin 50) : 128 * blk i k + 128 ≤ 204800 := by
  have h0 : (i 0).val < 2 := (i 0).isLt
  have h1 : (i 1).val < 16 := (i 1).isLt
  have := k.isLt
  unfold blk tileNo; omega
theorem iBlk_inb (i : grid0.Coords) (k : Fin 50) : ∀ a, (![0, 128 * blk i k] : Fin 2 → ℕ) a + S1x128.size a ≤ S1x204800.size a := by
  have := blk_lt i k
  intro a; match a with
  | 0 => show 0 + 1 ≤ 1; omega
  | 1 => show 128 * blk i k + 128 ≤ 204800; omega
theorem oBlk_inb (i : grid0.Coords) (k : Fin 50) : ∀ a, (![128 * blk i k, 0] : Fin 2 → ℕ) a + S128x128.size a ≤ S204800x128.size a := by
  have := blk_lt i k
  intro a; match a with
  | 0 => show 128 * blk i k + 128 ≤ 204800; omega
  | 1 => show 0 + 128 ≤ 128; omega

/-- Slot `p` of the index ring, and of the row ring. -/
abbrev iSlot (p : Fin 2) : Memref sig .scVector .vmem S1x128 .i32 :=
  (iBuf.slice (Rect.unit (s := S2x1x128) ![p.val, 0, 0] S1x1x128.size (iSlot_inb p)) (fun _ => rfl)).squeeze S1x128 squeezes_S1x1x128_S1x128
abbrev oSlot (p : Fin 2) : Memref sig .scVector .vmem S128x128 .f32 :=
  (oBuf.slice (Rect.unit (s := S2x128x128) ![p.val, 0, 0] S1x128x128.size (oSlot_inb p)) (fun _ => rfl)).squeeze S128x128 squeezes_S1x128x128_S128x128
/-- The list of 128 rows in slot `p` of the index ring, as the gather reads it. -/
abbrev offs (p : Fin 2) : Memref sig .scVector .vmem S128 .i32 :=
  ((iSlot p).slice (Rect.unit (s := S1x128) ![0, 0] S1x128.size inb_S1x128_S1x128_0_0) (fun _ => rfl)).squeeze S128 squeezes_S1x128_S128
/-- The table as the gather reads it. -/
abbrev tabAll : Memref sig .scVector .hbm S100000x128 .f32 :=
  tabV.slice (Rect.unit (s := S100000x128) ![0, 0] S100000x128.size inb_S100000x128_S100000x128_0_0) (fun _ => rfl)
/-- Block `k` of the tile at `i`, of the index list and of the output. -/
abbrev iBlk (i : grid0.Coords) (k : Fin 50) : Memref sig .scVector .hbm S1x128 .i32 :=
  idxV.slice (Rect.unit (s := S1x204800) ![0, 128 * blk i k] S1x128.size (iBlk_inb i k)) (fun _ => rfl)
abbrev oBlk (i : grid0.Coords) (k : Fin 50) : Memref sig .scVector .hbm S128x128 .f32 :=
  outV.slice (Rect.unit (s := S204800x128) ![128 * blk i k, 0] S128x128.size (oBlk_inb i k)) (fun _ => rfl)
/-- The semaphores of the two rings' slots. -/
abbrev iSem (p : Fin 2) : DmaSem sig := ((cc0_scoped1.slice (Rect.unit (s := S2) ![p.val] S1.size (sem_inb p))).squeeze S_ squeezes_S1_S_).sem
abbrev oSem (p : Fin 2) : DmaSem sig := ((cc0_scoped3.slice (Rect.unit (s := S2) ![p.val] S1.size (sem_inb p))).squeeze S_ squeezes_S1_S_).sem

/-! ## A slice at equal offsets is the same slice -/

theorem slice_congr {κ : Kind} {sp : Space} {s : Shape} {e : EltTy} (m : Memref sig κ sp s e) {o o' sz : Fin s.rank → ℕ} (h : o = o')
    (p : ∀ a, o a + sz a ≤ s.size a) (p' : ∀ a, o' a + sz a ≤ s.size a) :
    m.slice (Rect.unit o sz p) (fun _ => rfl) = m.slice (Rect.unit o' sz p') (fun _ => rfl) := by subst h; rfl
theorem semSlice_congr {s : Shape} (m : DmaSems sig s) {o o' sz : Fin s.rank → ℕ} (h : o = o')
    (p : ∀ a, o a + sz a ≤ s.size a) (p' : ∀ a, o' a + sz a ≤ s.size a) :
    m.slice (Rect.unit o sz p) = m.slice (Rect.unit o' sz p') := by subst h; rfl

theorem iSlot_at (p : Fin 2) {o : Fin 3 → ℕ} (h : o = ![p.val, 0, 0]) (hp : ∀ a, o a + S1x1x128.size a ≤ S2x1x128.size a) :
    (iBuf.slice (Rect.unit (s := S2x1x128) o S1x1x128.size hp) (fun _ => rfl)).squeeze S1x128 squeezes_S1x1x128_S1x128 = iSlot p := by subst h; rfl
theorem oSlot_at (p : Fin 2) {o : Fin 3 → ℕ} (h : o = ![p.val, 0, 0]) (hp : ∀ a, o a + S1x128x128.size a ≤ S2x128x128.size a) :
    (oBuf.slice (Rect.unit (s := S2x128x128) o S1x128x128.size hp) (fun _ => rfl)).squeeze S128x128 squeezes_S1x128x128_S128x128 = oSlot p := by subst h; rfl
theorem offs_at (p : Fin 2) {o : Fin 3 → ℕ} (h : o = ![p.val, 0, 0]) (hp : ∀ a, o a + S1x1x128.size a ≤ S2x1x128.size a) :
    ((((iBuf.slice (Rect.unit (s := S2x1x128) o S1x1x128.size hp) (fun _ => rfl)).squeeze S1x128 squeezes_S1x1x128_S1x128).slice
      (Rect.unit (s := S1x128) ![0, 0] S1x128.size inb_S1x128_S1x128_0_0) (fun _ => rfl)).squeeze S128 squeezes_S1x128_S128) = offs p := by subst h; rfl
theorem iSem_at (p : Fin 2) {o : Fin 1 → ℕ} (h : o = ![p.val]) (hp : ∀ a, o a + S1.size a ≤ S2.size a) :
    ((cc0_scoped1.slice (Rect.unit (s := S2) o S1.size hp)).squeeze S_ squeezes_S1_S_).sem = iSem p := by subst h; rfl
theorem oSem_at (p : Fin 2) {o : Fin 1 → ℕ} (h : o = ![p.val]) (hp : ∀ a, o a + S1.size a ≤ S2.size a) :
    ((cc0_scoped3.slice (Rect.unit (s := S2) o S1.size hp)).squeeze S_ squeezes_S1_S_).sem = oSem p := by subst h; rfl
theorem iBlk_at (i : grid0.Coords) (k : Fin 50) {o : Fin 2 → ℕ} (h : o = ![0, 128 * blk i k]) (hp : ∀ a, o a + S1x128.size a ≤ S1x204800.size a) :
    idxV.slice (Rect.unit (s := S1x204800) o S1x128.size hp) (fun _ => rfl) = iBlk i k := by subst h; rfl
theorem oBlk_at (i : grid0.Coords) (k : Fin 50) {o : Fin 2 → ℕ} (h : o = ![128 * blk i k, 0]) (hp : ∀ a, o a + S128x128.size a ≤ S204800x128.size a) :
    outV.slice (Rect.unit (s := S204800x128) o S128x128.size hp) (fun _ => rfl) = oBlk i k := by subst h; rfl

/-! ## The contents -/

variable (I : S1x204800.Idx → BitVec 32) (T : S100000x128.Idx → F .f32)

/-- The table row a word names. -/
def row (w : BitVec 32) : Fin 100000 := ⟨w.toNat % 100000, Nat.mod_lt _ (by omega)⟩

/-- The index ring's slot holding block `k`. -/
def iC (i : grid0.Coords) (k : Fin 50) : S2x1x128.Idx → BitVec 32 := fun y =>
  I (ix2 (0 : Fin 1) (⟨128 * blk i k + (y 2).val, by have := blk_lt i k; have : (y 2).val < 128 := (y 2).isLt; omega⟩ : Fin 204800))
/-- The row ring's slot holding block `k`'s rows. -/
def oC (i : grid0.Coords) (k : Fin 50) : S2x128x128.Idx → F .f32 := fun y =>
  T (ix2 (row (I (ix2 (0 : Fin 1) (⟨128 * blk i k + (y 1).val, by have := blk_lt i k; have : (y 1).val < 128 := (y 1).isLt; omega⟩ : Fin 204800))))
    (y 2 : Fin 128))
/-- The gathered rows. -/
def G : S204800x128.Idx → F .f32 := fun y => T (ix2 (row (I (ix2 (0 : Fin 1) (y 0 : Fin 204800)))) (y 1 : Fin 128))

/-! ## Where the views' indices fall -/

theorem iSlot_emb (p : Fin 2) (x : S1x128.Idx) : (iSlot p).view.emb x = (ix3 p (0 : Fin 1) (x 1 : Fin 128) : S2x1x128.Idx) := by
  have hx : x = ix2 (x 0 : Fin 1) (x 1 : Fin 128) := by funext a; match a with | 0 => rfl | 1 => rfl
  have h0 : (x 0 : Fin 1) = (0 : Fin 1) := Subsingleton.elim (α := Fin 1) _ _
  rw [hx, h0]
  show (Rect.unit (s := S2x1x128) ![p.val, 0, 0] S1x1x128.size (iSlot_inb p)).emb
    (Shape.reshapeEquiv squeezes_S1x1x128_S1x128.numel_eq (ix2 (0 : Fin 1) (x 1 : Fin 128))) = _
  rw [show Shape.reshapeEquiv squeezes_S1x1x128_S1x128.numel_eq (ix2 (0 : Fin 1) (x 1 : Fin 128))
    = ix3 (⟨0, Nat.one_pos⟩ : Fin 1) (0 : Fin 1) (x 1 : Fin 128) from reshapeEquiv_ix2_1ab _ _ _]
  funext a; apply Fin.ext
  match a with
  | 0 => show p.val + 1 * 0 = p.val; omega
  | 1 => show 0 + 1 * 0 = 0; omega
  | 2 => show 0 + 1 * (x 1).val = (x 1).val; omega

theorem oSlot_emb (p : Fin 2) (x : S128x128.Idx) : (oSlot p).view.emb x = (ix3 p (x 0 : Fin 128) (x 1 : Fin 128) : S2x128x128.Idx) := by
  have hx : x = ix2 (x 0 : Fin 128) (x 1 : Fin 128) := by funext a; match a with | 0 => rfl | 1 => rfl
  rw [hx]
  show (Rect.unit (s := S2x128x128) ![p.val, 0, 0] S1x128x128.size (oSlot_inb p)).emb
    (Shape.reshapeEquiv squeezes_S1x128x128_S128x128.numel_eq (ix2 (x 0 : Fin 128) (x 1 : Fin 128))) = _
  rw [show Shape.reshapeEquiv squeezes_S1x128x128_S128x128.numel_eq (ix2 (x 0 : Fin 128) (x 1 : Fin 128))
    = ix3 (⟨0, Nat.one_pos⟩ : Fin 1) (x 0 : Fin 128) (x 1 : Fin 128) from reshapeEquiv_ix2_1ab _ _ _]
  funext a; apply Fin.ext
  match a with
  | 0 => show p.val + 1 * 0 = p.val; omega
  | 1 => show 0 + 1 * (x 0).val = (x 0).val; omega
  | 2 => show 0 + 1 * (x 1).val = (x 1).val; omega

theorem offs_emb (p : Fin 2) (x : S128.Idx) : (offs p).view.emb x = (ix3 p (0 : Fin 1) (x 0 : Fin 128) : S2x1x128.Idx) := by
  have e : Shape.reshapeEquiv squeezes_S1x128_S128.numel_eq x = (ix2 (0 : Fin 1) (x 0 : Fin 128) : S1x128.Idx) :=
    Shape.reshapeEquiv_eq_of_rowMajor _ (by
      rw [Shape.rowMajor_val_two, Shape.rowMajor_val_one]
      show 0 * 128 + (x 0).val = (x 0).val; omega)
  show (iSlot p).view.emb ((Rect.unit (s := S1x128) ![0, 0] S1x128.size inb_S1x128_S1x128_0_0).emb
    (Shape.reshapeEquiv squeezes_S1x128_S128.numel_eq x)) = _
  rw [e, iSlot_emb]
  congr 1
  apply Fin.ext
  show 0 + 1 * (x 0).val = (x 0).val; omega

theorem iBlk_emb (i : grid0.Coords) (k : Fin 50) (x : S1x128.Idx) : (iBlk i k).view.emb x
    = (ix2 (0 : Fin 1) (⟨128 * blk i k + (x 1).val, by have := blk_lt i k; have : (x 1).val < 128 := (x 1).isLt; omega⟩ : Fin 204800) : S1x204800.Idx) := by
  funext a; apply Fin.ext
  match a with
  | 0 => show 0 + 1 * (x 0).val = 0; have : (x 0).val < 1 := (x 0).isLt; omega
  | 1 => show 128 * blk i k + 1 * (x 1).val = 128 * blk i k + (x 1).val; omega

theorem oBlk_emb (i : grid0.Coords) (k : Fin 50) (x : S128x128.Idx) : (oBlk i k).view.emb x
    = (ix2 (⟨128 * blk i k + (x 0).val, by have := blk_lt i k; have : (x 0).val < 128 := (x 0).isLt; omega⟩ : Fin 204800) (x 1 : Fin 128) : S204800x128.Idx) := by
  funext a; apply Fin.ext
  match a with
  | 0 => show 128 * blk i k + 1 * (x 0).val = 128 * blk i k + (x 0).val; omega
  | 1 => show 0 + 1 * (x 1).val = (x 1).val; omega

theorem tabAll_emb (x : S100000x128.Idx) : tabAll.view.emb x = x := by
  funext a; apply Fin.ext
  match a with
  | 0 => show 0 + 1 * (x 0).val = (x 0).val; omega
  | 1 => show 0 + 1 * (x 1).val = (x 1).val; omega

theorem offs_set (p : Fin 2) : (offs p).view.set = (iSlot p).view.set := by
  ext y; constructor
  · intro h
    obtain ⟨x, -, rfl⟩ := Finset.mem_map.mp h
    refine Finset.mem_map.mpr ⟨ix2 (0 : Fin 1) (x 0 : Fin 128), Finset.mem_univ _, ?_⟩
    rw [iSlot_emb, offs_emb]
  · intro h
    obtain ⟨x, -, rfl⟩ := Finset.mem_map.mp h
    refine Finset.mem_map.mpr ⟨ix1 (x 1 : Fin 128), Finset.mem_univ _, ?_⟩
    rw [iSlot_emb, offs_emb]

/-! ## What each transfer leaves -/

/-- The copy in of block `k` leaves the slot holding block `k`. -/
theorem copyIn (p : Fin 2) (i : grid0.Coords) (k : Fin 50) (fd : S2x1x128.Idx → BitVec 32) :
    ∀ y ∈ (iSlot p).view.set, (iSlot p).view.write (Elt F) fd ((iBlk i k).view.read (Elt F) I) Finset.univ y = iC I i k y := by
  intro y hy
  obtain ⟨x, -, rfl⟩ := Finset.mem_map.mp hy
  refine (View.write_emb_of_mem (v := (iSlot p).view) (Val := Elt F) fd _ (Finset.mem_univ x)).trans ?_
  refine (cast_eq _ _).trans ?_
  refine (View.read_apply (Val := Elt F) (v := (iBlk i k).view) I x).trans ?_
  refine (cast_eq _ _).trans ?_
  rw [iBlk_emb]
  show _ = iC I i k ((iSlot p).view.emb x)
  rw [iSlot_emb]; rfl

/-- The list the gather of block `k` reads. -/
theorem offs_read (p : Fin 2) (i : grid0.Coords) (k : Fin 50) (x : S128.Idx) :
    (offs p).view.read (Elt F) (iC I i k) x = I (ix2 (0 : Fin 1) (⟨128 * blk i k + (x 0).val, by have := blk_lt i k; have : (x 0).val < 128 := (x 0).isLt; omega⟩ : Fin 204800)) := by
  refine (View.read_apply (Val := Elt F) (v := (offs p).view) _ x).trans ?_
  refine (cast_eq _ _).trans ?_
  rw [offs_emb]; rfl

/-- The gather of block `k`'s rows leaves the slot holding them. -/
theorem gathered (p : Fin 2) (i : grid0.Coords) (k : Fin 50) (fd : S2x128x128.Idx → F .f32) (hn : S128.numel = S128x128.size gathers_S100000x128_S128x128.axis')
    (hin : ∀ x, ((offs p).view.read (Elt F) (iC I i k) x).toNat < S100000x128.size gathers_S100000x128_S128x128.axis) :
    ∀ y ∈ (oSlot p).view.set, (oSlot p).view.write (Elt F) fd (SparseCore.gatherPayload gathers_S100000x128_S128x128 (tabAll.view.read (Elt F) T)
      (SparseCore.rows ((offs p).view.read (Elt F) (iC I i k)) hn hin)) Finset.univ y = oC I T i k y := by
  intro y hy
  obtain ⟨x, -, rfl⟩ := Finset.mem_map.mp hy
  refine (View.write_emb_of_mem (v := (oSlot p).view) (Val := Elt F) fd _ (Finset.mem_univ x)).trans ?_
  refine (cast_eq _ _).trans ?_
  unfold SparseCore.gatherPayload
  refine (View.read_apply (Val := Elt F) (v := tabAll.view) T _).trans ?_
  refine (cast_eq _ _).trans ?_
  rw [tabAll_emb]
  show _ = oC I T i k ((oSlot p).view.emb x)
  rw [oSlot_emb]
  unfold oC
  have hrow : ∀ (z : S128.Idx) (hz : (z 0).val = (x 0).val), ((offs p).view.read (Elt F) (iC I i k) z)
      = I (ix2 (0 : Fin 1) (⟨128 * blk i k + (x 0).val, by have := blk_lt i k; have : (x 0).val < 128 := (x 0).isLt; omega⟩ : Fin 204800)) := by
    intro z hz
    rw [offs_read]; simp only [hz]
  congr 1
  funext a
  match a with
  | 0 =>
    apply Fin.ext
    refine (congrArg Fin.val (Shape.Gathers.idx_axis gathers_S100000x128_S128x128 _ x)).trans ?_
    unfold SparseCore.rows
    have hz : ((S128.rowMajor.symm ((x gathers_S100000x128_S128x128.axis').cast hn.symm)) 0).val = (x 0).val := by
      have := Shape.rowMajor_val_one (S128.rowMajor.symm ((x gathers_S100000x128_S128x128.axis').cast hn.symm))
      rw [← this]
      exact congrArg Fin.val (Equiv.apply_symm_apply S128.rowMajor _)
    have hlt := hin (S128.rowMajor.symm ((x gathers_S100000x128_S128x128.axis').cast hn.symm))
    show BitVec.toNat _ = (row _).val
    rw [hrow _ hz] at hlt ⊢
    exact (Nat.mod_eq_of_lt hlt).symm
  | 1 =>
    apply Fin.ext
    exact Shape.Gathers.idx_of_ne gathers_S100000x128_S128x128 _ x 1 (by decide)

/-- The copy out of block `k`'s rows leaves the block holding the gathered rows. -/
theorem copyOut (p : Fin 2) (i : grid0.Coords) (k : Fin 50) (fd : S204800x128.Idx → F .f32) :
    ∀ y ∈ (oBlk i k).view.set, (oBlk i k).view.write (Elt F) fd ((oSlot p).view.read (Elt F) (oC I T i k)) Finset.univ y = G I T y := by
  intro y hy
  obtain ⟨x, -, rfl⟩ := Finset.mem_map.mp hy
  refine (View.write_emb_of_mem (v := (oBlk i k).view) (Val := Elt F) fd _ (Finset.mem_univ x)).trans ?_
  refine (cast_eq _ _).trans ?_
  refine (View.read_apply (Val := Elt F) (v := (oSlot p).view) _ x).trans ?_
  refine (cast_eq _ _).trans ?_
  rw [oSlot_emb]
  show _ = G I T ((oBlk i k).view.emb x)
  rw [oBlk_emb]; rfl

/-- The list's words are in range when the index list's are. -/
theorem offs_inRange (hI : ∀ j, (I j).toNat < 100000) (p : Fin 2) (i : grid0.Coords) (k : Fin 50) :
    ∀ x, ((offs p).view.read (Elt F) (iC I i k) x).toNat < S100000x128.size gathers_S100000x128_S128x128.axis := by
  intro x; rw [offs_read]; exact hI _

end Cert.Proof.Slots

end
-- ==== Proof.Rules.lean ====
/-
  One tile's resources and its five kinds of event: the issue of an index copy and its wait, the gather and its wait, and
  the issue of an output copy and its wait. Each rule takes the program's memrefs as equal to the slot or block they name.
-/
module

public import proofs.«01_k».proof.Proof.Setup
public import proofs.«01_k».proof.Proof.Slots

@[expose] public section

noncomputable section

namespace Cert.Proof.Rules

open Cert.KernelIdeal Cert.KernelIdeal.Gen Cert.Proof.Setup Cert.Proof.Words Cert.Proof.Slots
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The subcore that runs the task at grid coordinates `L`. -/
abbrev cV (L : grid0.Coords) : Fin τ.nSC := (L 0).castLE hcore0
abbrev jV (L : grid0.Coords) : Fin τ.nSub := (L 1).castLE hsub0
abbrev th (d : Dev nD) (L : grid0.Coords) : Thread nD τ := V d (cV L) (jV L)

section

variable (d : Dev nD) (L : grid0.Coords) (I : S1x204800.Idx → BitVec 32) (T : S100000x128.Idx → F .f32)

/-! ## The resources -/

/-- What the counters of one slot's index copy, one slot's output copy and the gather amount to. -/
abbrev nIn : ℕ := (iSlot 0).view.dmaCredit
abbrev nOut (k : Fin 50) : ℕ := (oBlk L k).view.dmaCredit
abbrev nGat : ℕ := (oSlot 0).view.dmaCredit

/-- A slot of the index ring, and of the row ring, at contents `f`. -/
abbrev iPt (p : Fin 2) (f : S2x1x128.Idx → BitVec 32) : sProp 𝕄 :=
  (iSlot p).view.loc (th d L) ↦[(iSlot p).view.set]{fullShare} f
abbrev oPt (p : Fin 2) (f : S2x128x128.Idx → F .f32) : sProp 𝕄 :=
  (oSlot p).view.loc (th d L) ↦[(oSlot p).view.set]{fullShare} f
/-- The index list at share `q`, whole and on the block of number `k`; a block of the output at contents `f`. -/
abbrev xAll (q : PosShare TreeShare) : sProp 𝕄 := (idxV).view.loc (th d L) ↦{q} I
abbrev xBlk (q : PosShare TreeShare) (k : Fin 50) : sProp 𝕄 := (iBlk L k).view.loc (th d L) ↦[(iBlk L k).view.set]{q} I
abbrev rPt (k : Fin 50) (f : S204800x128.Idx → F .f32) : sProp 𝕄 :=
  (oBlk L k).view.loc (th d L) ↦[(oBlk L k).view.set]{fullShare} f
/-- The table at share `q`, as the gather reads it. -/
abbrev tPt (q : PosShare TreeShare) : sProp 𝕄 := (tabAll).view.loc (th d L) ↦[(tabAll).view.set]{q} T

/-- Slot `p` of the index ring idle, and with the copy of block `k` in flight to it. -/
def iFree (q : PosShare TreeShare) (p : Fin 2) : sProp 𝕄 :=
  iprop((∃ f, iPt d L p f) ∗ semVal (th d L, .dma (iSem p)) 0 ∗ xAll d L I q)
def iInfl (q : PosShare TreeShare) (p : Fin 2) (k : Fin 50) : sProp 𝕄 :=
  iprop(Transfers.Flight countersEmb (th d L) (.dma (iSem p)) (default : HIx 1) nIn iprop(iPt d L p (iC I L k) ∗ xBlk d L I q k)
    ∗ (idxV).view.loc (th d L) ↦[Finset.univ \ (iBlk L k).view.set]{q} I)
/-- Slot `p` of the row ring idle, and with the copy of block `k`'s rows in flight from it. -/
def oFree (p : Fin 2) : sProp 𝕄 := iprop((∃ f, oPt d L p f) ∗ semVal (th d L, .dma (oSem p)) 0)
def oInfl (p : Fin 2) (k : Fin 50) : sProp 𝕄 :=
  Transfers.Flight countersEmb (th d L) (.dma (oSem p)) (default : HIx 1) (nOut L k) iprop(rPt d L k (G I T) ∗ oPt d L p (oC I T L k))

/-! ## The events -/

variable [FloatOps F] {α : Type}

theorem amount_i (p : Fin 2) (s : DmaSem sig) : (iSlot p).view.amount (SemLoc.dma s) = nIn := rfl
theorem amount_o (k : Fin 50) (s : DmaSem sig) : (oBlk L k).view.amount (SemLoc.dma s) = nOut L k := rfl

/-- The copy of block `k` of the index list to slot `p` is issued. -/
theorem issueIn (q : PosShare TreeShare) (p : Fin 2) (k : Fin 50)
    {src : Memref sig .scVector .hbm S1x128 .i32} {dst : Memref sig .scVector .vmem S1x128 .i32} {sm : DmaSem sig}
    (es : src = iBlk L k) (ed : dst = iSlot p) (em : sm = iSem p) {h₁ h₂ h₃}
    {kk : PUnit → Prog (TpuEff nD τ sig (Elt F) Λ₀ (th d L).2) α} {Ψ : α → sProp 𝕄} :
    iFree d L I q p ⊢ iprop((iInfl d L I q p k -∗ wp frame (wpE (defs₀ (F := F)) 𝒱₀ (th d L) none) Set.univ (kk ⟨⟩) Ψ)
      -∗ wp frame (wpE (defs₀ (F := F)) 𝒱₀ (th d L) none) Set.univ (.op (.enqueueDma src (.here dst) (.dma sm) h₁ h₂ h₃) kk) Ψ) := by
  subst es ed em
  unfold iFree iInfl
  iintro ⟨⟨%f, Hd⟩, Hv, Hx⟩ Hk
  ihave Hx := (pointsTo_split_subset (q := q) (f := I) (S := Finset.univ) (Finset.subset_univ (iBlk L k).view.set)).1 $$ Hx
  icases Hx with ⟨Hx, Hr⟩
  iapply (Transfers.wp_dmaLocal countersEmb 𝒱₀ (th d L) none (default : HIx 1) nIn (amount_i p _) (by decide) (Finset.Subset.refl _)) $$ [Hx Hd Hv]
  · isplitl [Hx]; · iexact Hx
    isplitl [Hd]; · iexact Hd
    iexact Hv
  iintro Hfl
  iapply Hk
  isplitl [Hfl]
  · iapply (Transfers.Flight_mono countersEmb (th d L) (show _ ⊢ _ from BI.sep_mono (Entails.of_eq (pointsTo_congr (copyIn (F := F) I p L k f))) (BI.Entails.refl _)))
    iexact Hfl
  iexact Hr

/-- The wait for it. -/
theorem waitIn (q : PosShare TreeShare) (p : Fin 2) (k : Fin 50)
    {src : Memref sig .scVector .hbm S1x128 .i32} {dst : Memref sig .scVector .vmem S1x128 .i32} {sm : DmaSem sig}
    (ed : dst = iSlot p) (em : sm = iSem p) {h₁ h₂}
    {kk : PUnit → Prog (TpuEff nD τ sig (Elt F) Λ₀ (th d L).2) α} {Ψ : α → sProp 𝕄} {O : CellTallies nD τ sig (HIx 1)} {W : Waits sig (HIx 1)} :
    iprop(Transfers.MayWaits (th d L) (default : HIx 1) O ∗ iInfl d L I q p k ∗ owes (th d L) O W) ⊢ iprop((iprop((iPt d L p (iC I L k) ∗ semVal (th d L, .dma (iSem p)) 0 ∗ xAll d L I q)
        ∗ owes (th d L) O (insert (SemLoc.dma (iSem p), (default : HIx 1)) W)) -∗ wp frame (wpE (defs₀ (F := F)) 𝒱₀ (th d L) none) Set.univ (kk ⟨⟩) Ψ)
      -∗ wp frame (wpE (defs₀ (F := F)) 𝒱₀ (th d L) none) Set.univ (.op (.waitDma2 sm src dst h₁ h₂) kk) Ψ) := by
  subst ed em
  unfold iInfl
  iintro ⟨Hmw, ⟨Hfl, Hr⟩, HO⟩ Hk
  iapply (Transfers.wp_waitLocalO countersEmb 𝒱₀ (th d L) none (default : HIx 1) (N := nIn) (rfl : (iSlot p).view.dmaCredit = nIn)) $$ [Hmw Hfl HO]
  · isplitl [Hfl]; · iexact Hfl
    isplitl [HO]; · iexact HO
    iapply (Transfers.MayWaits.elim (SemLoc.dma (iSem p))) $$ Hmw
  iintro ⟨⟨Hd, Hx⟩, Hv, HO⟩
  iapply Hk
  isplitr [HO]
  · isplitl [Hd]; · iexact Hd
    isplitl [Hv]; · iexact Hv
    iapply (pointsTo_split_subset (q := q) (f := I) (S := Finset.univ) (Finset.subset_univ (iBlk L k).view.set)).2
    isplitl [Hx]; · iexact Hx
    iexact Hr
  iexact HO

/-- The gather of block `k`'s rows into slot `p`, issued: the table, the slot, the list in slot `p` of the index ring. -/
theorem issueGather (hI : ∀ j, (I j).toNat < 100000) (q : PosShare TreeShare) (p : Fin 2) (k : Fin 50) (f : S2x128x128.Idx → F .f32)
    {dst : Memref sig .scVector .vmem S128x128 .f32} {lst : Memref sig .scVector .vmem S128 .i32} {sm : DmaSem sig}
    (ed : dst = oSlot p) (el : lst = offs p) {h₁ h₂ h₃ h₄ h₅ h₆}
    {kk : PUnit → Prog (TpuEff nD τ sig (Elt F) Λ₀ (th d L).2) α} {Ψ : α → sProp 𝕄} :
    iprop(tPt d L T q ∗ oPt d L p f ∗ iPt d L p (iC I L k) ∗ semVal (th d L, .dma sm) 0)
      ⊢ iprop((Transfers.Flight countersEmb (th d L) (.dma sm) (default : HIx 1) nGat
            iprop(oPt d L p (oC I T L k) ∗ tPt d L T q ∗ iPt d L p (iC I L k))
          -∗ wp frame (wpE (defs₀ (F := F)) 𝒱₀ (th d L) none) Set.univ (kk ⟨⟩) Ψ)
      -∗ wp frame (wpE (defs₀ (F := F)) 𝒱₀ (th d L) none) Set.univ
          (SparseCore.enqueueIndirectGather h₁ tabAll dst gathers_S100000x128_S128x128 lst h₂ sm h₃ h₄ h₅ h₆ >>= kk) Ψ) := by
  subst ed el
  iintro ⟨Ht, Hd, Hl, Hv⟩ Hk
  have hN : ∀ (p : Fin 2) (h : S100000x128.Gathers 0 S128x128), ∑ j, ((oSlot p).slice (S128x128.rowRect h.axis' j) (S128x128.stride_rowRect h.axis' j)).view.dmaCredit
      = nGat := by decide
  have hl : (iPt d L p (iC I L k) : sProp 𝕄) = ((offs p).view.loc (th d L) ↦[(offs p).view.set]{fullShare} iC I L k) := by rw [offs_set]
  ihave Hl := (Entails.of_eq hl) $$ Hl
  iapply (SparseCore.wp_indirectGatherLocal countersEmb 𝒱₀ (th d L) none (hg := gathers_S100000x128_S128x128) (default : HIx 1)
      nGat (hN p _) (by decide) (offs_inRange (F := F) I hI p L k)) $$ [Ht Hd Hl Hv]
  · isplitl [Ht]; · iexact Ht
    isplitl [Hd]; · iexact Hd
    isplitl [Hl]; · iexact Hl
    iexact Hv
  iintro Hfl
  iapply Hk
  iapply (Transfers.Flight_mono countersEmb (th d L) (show _ ⊢ _ from BI.sep_mono
    (Entails.of_eq (pointsTo_congr (gathered I T p L k f _ _))) (BI.sep_mono (BI.Entails.refl _) (Entails.of_eq hl.symm))))
  iexact Hfl

/-- The wait for it. -/
theorem waitGather (q : PosShare TreeShare) (p : Fin 2) (k : Fin 50)
    {src : Memref sig .scVector .hbm S100000x128 .f32} {dst : Memref sig .scVector .vmem S128x128 .f32} {sm : DmaSem sig}
    (ed : dst = oSlot p) {h₁ h₂}
    {kk : PUnit → Prog (TpuEff nD τ sig (Elt F) Λ₀ (th d L).2) α} {Ψ : α → sProp 𝕄} {O : CellTallies nD τ sig (HIx 1)} {W : Waits sig (HIx 1)} :
    iprop(Transfers.MayWaits (th d L) (default : HIx 1) O ∗ Transfers.Flight countersEmb (th d L) (.dma sm) (default : HIx 1) nGat
            iprop(oPt d L p (oC I T L k) ∗ tPt d L T q ∗ iPt d L p (iC I L k)) ∗ owes (th d L) O W)
      ⊢ iprop((iprop((oPt d L p (oC I T L k) ∗ tPt d L T q ∗ iPt d L p (iC I L k)) ∗ semVal (th d L, .dma sm) 0
        ∗ owes (th d L) O (insert (SemLoc.dma sm, (default : HIx 1)) W)) -∗ wp frame (wpE (defs₀ (F := F)) 𝒱₀ (th d L) none) Set.univ (kk ⟨⟩) Ψ)
      -∗ wp frame (wpE (defs₀ (F := F)) 𝒱₀ (th d L) none) Set.univ (SparseCore.waitIndirectGather sm src dst h₁ h₂ >>= kk) Ψ) := by
  subst ed
  iintro ⟨Hmw, Hfl, HO⟩ Hk
  iapply (Transfers.wp_waitLocalO countersEmb 𝒱₀ (th d L) none (default : HIx 1) (N := nGat) (rfl : (oSlot p).view.dmaCredit = nGat)) $$ [Hmw Hfl HO]
  · isplitl [Hfl]; · iexact Hfl
    isplitl [HO]; · iexact HO
    iapply (Transfers.MayWaits.elim (SemLoc.dma sm)) $$ Hmw
  iexact Hk

/-- The copy of block `k`'s rows out of slot `p` is issued. -/
theorem issueOut (p : Fin 2) (k : Fin 50) (f : S204800x128.Idx → F .f32)
    {src : Memref sig .scVector .vmem S128x128 .f32} {dst : Memref sig .scVector .hbm S128x128 .f32} {sm : DmaSem sig}
    (es : src = oSlot p) (ed : dst = oBlk L k) (em : sm = oSem p) {h₁ h₂ h₃}
    {kk : PUnit → Prog (TpuEff nD τ sig (Elt F) Λ₀ (th d L).2) α} {Ψ : α → sProp 𝕄} :
    iprop(oPt d L p (oC I T L k) ∗ rPt d L k f ∗ semVal (th d L, .dma (oSem p)) 0)
      ⊢ iprop((oInfl d L I T p k -∗ wp frame (wpE (defs₀ (F := F)) 𝒱₀ (th d L) none) Set.univ (kk ⟨⟩) Ψ)
      -∗ wp frame (wpE (defs₀ (F := F)) 𝒱₀ (th d L) none) Set.univ (.op (.enqueueDma src (.here dst) (.dma sm) h₁ h₂ h₃) kk) Ψ) := by
  subst es ed em
  unfold oInfl
  iintro ⟨Hs, Hd, Hv⟩ Hk
  iapply (Transfers.wp_dmaLocal countersEmb 𝒱₀ (th d L) none (default : HIx 1) (nOut L k) (amount_o L k _) (View.amount_pos _ (.dma (oSem p)) (show 0 < S128x128.numel by decide)) (Finset.Subset.refl _)) $$ [Hs Hd Hv]
  · isplitl [Hs]; · iexact Hs
    isplitl [Hd]; · iexact Hd
    iexact Hv
  iintro Hfl
  iapply Hk
  iapply (Transfers.Flight_mono countersEmb (th d L) (show _ ⊢ _ from BI.sep_mono (Entails.of_eq (pointsTo_congr (copyOut I T p L k f))) (BI.Entails.refl _)))
  iexact Hfl

/-- The wait for it. -/
theorem waitOut (p : Fin 2) (k : Fin 50)
    {src : Memref sig .scVector .vmem S128x128 .f32} {dst : Memref sig .scVector .hbm S128x128 .f32} {sm : DmaSem sig}
    (ed : dst.view.dmaCredit = nOut L k) (em : sm = oSem p) {h₁ h₂}
    {kk : PUnit → Prog (TpuEff nD τ sig (Elt F) Λ₀ (th d L).2) α} {Ψ : α → sProp 𝕄} {O : CellTallies nD τ sig (HIx 1)} {W : Waits sig (HIx 1)} :
    iprop(Transfers.MayWaits (th d L) (default : HIx 1) O ∗ oInfl d L I T p k ∗ owes (th d L) O W)
      ⊢ iprop((iprop((rPt d L k (G I T) ∗ oPt d L p (oC I T L k)) ∗ semVal (th d L, .dma (oSem p)) 0
        ∗ owes (th d L) O (insert (SemLoc.dma (oSem p), (default : HIx 1)) W)) -∗ wp frame (wpE (defs₀ (F := F)) 𝒱₀ (th d L) none) Set.univ (kk ⟨⟩) Ψ)
      -∗ wp frame (wpE (defs₀ (F := F)) 𝒱₀ (th d L) none) Set.univ (.op (.waitDma2 sm src dst h₁ h₂) kk) Ψ) := by
  subst em
  unfold oInfl
  iintro ⟨Hmw, Hfl, HO⟩ Hk
  iapply (Transfers.wp_waitLocalO countersEmb 𝒱₀ (th d L) none (default : HIx 1) (N := nOut L k) ed) $$ [Hmw Hfl HO]
  · isplitl [Hfl]; · iexact Hfl
    isplitl [HO]; · iexact HO
    iapply (Transfers.MayWaits.elim (SemLoc.dma (oSem p))) $$ Hmw
  iexact Hk

end

end Cert.Proof.Rules

end
-- ==== Proof.Tile.lean ====
/-
  The gather kernel's body on one tile: fifty trips, each over one block of 128 indices, with the copies in and out double
  buffered. The invariant says which copies are in flight and which blocks of the output hold their rows.
-/
module

public import proofs.«01_k».proof.Proof.Rules

@[expose] public section

noncomputable section

namespace Cert.Proof.Tile

open Cert.KernelIdeal Cert.KernelIdeal.Gen Cert.Proof.Setup Cert.Proof.Words Cert.Proof.Slots Cert.Proof.Rules
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The counters a trip leaves -/

/-- The slot and the block of step `t`. -/
def sl (t : ℕ) : Fin 2 := ⟨t % 2, Nat.mod_lt _ (by omega)⟩
def bk (t : ℕ) : Fin 50 := ⟨t % 50, Nat.mod_lt _ (by omega)⟩

theorem sl_add_two (t : ℕ) : sl (t + 1 + 1) = sl t := Fin.ext (show (t + 1 + 1) % 2 = t % 2 by omega)
theorem sl_pred {t : ℕ} (h : 0 < t) : (t - 1) % 2 = (sl (t + 1)).val := show (t - 1) % 2 = (t + 1) % 2 by omega
theorem bk_val {t : ℕ} (h : t < 50) : (bk t).val = t := Nat.mod_eq_of_lt h

section

variable (d : Dev nD) (L : grid0.Coords) (I : S1x204800.Idx → BitVec 32) (T : S100000x128.Idx → F .f32) (f₀ : S204800x128.Idx → F .f32)
  (qt qx : PosShare TreeShare)

/-! ## The blocks of the output -/

/-- Block `k` before step `t`: written when `k + 1 < t`, in flight when `k + 1 = t`, untouched otherwise. -/
def rowAt (t : ℕ) (k : Fin 50) : sProp 𝕄 :=
  if k.val + 1 < t then rPt d L k (G I T) else if k.val + 1 = t then iprop(emp) else rPt d L k f₀
def rows (t : ℕ) : sProp 𝕄 := bigSep Finset.univ (rowAt d L I T f₀ t)

theorem rows_take {t : ℕ} (h : t < 50) :
    rows d L I T f₀ t = iprop(rPt d L (bk t) f₀ ∗ bigSep (Finset.univ.erase (bk t)) (rowAt d L I T f₀ t)) := by
  unfold rows
  rw [SparseCore.bigSep_erase' (Finset.mem_univ (bk t))]
  have hb := bk_val h
  rw [show rowAt d L I T f₀ t (bk t) = rPt d L (bk t) f₀ by unfold rowAt; rw [if_neg (by omega), if_neg (by omega)]]

theorem rows_first : (bigSep (Finset.univ.erase (bk 0)) (rowAt d L I T f₀ 0) : sProp 𝕄) ⊢ rows d L I T f₀ 1 := by
  unfold rows
  rw [SparseCore.bigSep_erase' (s := Finset.univ) (Finset.mem_univ (bk 0)),
    show rowAt d L I T f₀ 1 (bk 0) = iprop(emp) by unfold rowAt; rw [if_neg (by decide), if_pos (by decide)],
    bigSep_congr (s := Finset.univ.erase (bk 0)) (Φ := rowAt d L I T f₀ 1) (Ψ := rowAt d L I T f₀ 0) (fun k hk => by
      have hk0 : k.val ≠ 0 := fun e => (Finset.mem_erase.mp hk).1 (Fin.ext e)
      unfold rowAt; rw [if_neg (by omega), if_neg (by omega), if_neg (by omega), if_neg (by omega)])]
  iintro H
  isplitr; · iempintro
  iexact H

theorem rows_next {t : ℕ} (h0 : 0 < t) (h : t < 50) :
    iprop(rPt d L (bk (t - 1)) (G I T) ∗ bigSep (Finset.univ.erase (bk t)) (rowAt d L I T f₀ t)) ⊢ rows d L I T f₀ (t + 1) := by
  have hb := bk_val h
  have hb' := bk_val (show t - 1 < 50 by omega)
  have hne : bk (t - 1) ≠ bk t := fun e => by have := congrArg Fin.val e; omega
  have hmem : bk (t - 1) ∈ Finset.univ.erase (bk t) := Finset.mem_erase.mpr ⟨hne, Finset.mem_univ _⟩
  unfold rows
  rw [SparseCore.bigSep_erase' (s := Finset.univ) (Finset.mem_univ (bk t)), SparseCore.bigSep_erase' (Φ := rowAt d L I T f₀ (t + 1)) hmem,
    SparseCore.bigSep_erase' (Φ := rowAt d L I T f₀ t) hmem,
    show rowAt d L I T f₀ (t + 1) (bk t) = iprop(emp) by unfold rowAt; rw [if_neg (by omega), if_pos (by omega)],
    show rowAt d L I T f₀ (t + 1) (bk (t - 1)) = rPt d L (bk (t - 1)) (G I T) by unfold rowAt; rw [if_pos (by omega)],
    show rowAt d L I T f₀ t (bk (t - 1)) = iprop(emp) by unfold rowAt; rw [if_neg (by omega), if_pos (by omega)],
    bigSep_congr (s := (Finset.univ.erase (bk t)).erase (bk (t - 1))) (Φ := rowAt d L I T f₀ (t + 1)) (Ψ := rowAt d L I T f₀ t) (fun k hk => by
      have h1 : k.val ≠ t - 1 := fun e => (Finset.mem_erase.mp hk).1 (Fin.ext (e.trans hb'.symm))
      have h2 : k.val ≠ t := fun e => (Finset.mem_erase.mp (Finset.mem_erase.mp hk).2).1 (Fin.ext (e.trans hb.symm))
      unfold rowAt
      by_cases h3 : k.val + 1 < t
      · rw [if_pos h3, if_pos (by omega)]
      · rw [if_neg h3, if_neg (by omega), if_neg (by omega), if_neg (by omega)])]
  iintro ⟨HG, -, H⟩
  isplitr; · iempintro
  isplitl [HG]; · iexact HG
  iexact H

theorem rows_zero : rows d L I T f₀ 0 = bigSep Finset.univ fun k => rPt d L k f₀ := by
  unfold rows
  exact bigSep_congr fun k _ => by unfold rowAt; rw [if_neg (by omega), if_neg (by omega)]

theorem rows_last : iprop(rPt d L (bk 49) (G I T) ∗ rows d L I T f₀ 50) ⊢ (bigSep Finset.univ fun k => rPt d L k (G I T) : sProp 𝕄) := by
  unfold rows
  rw [SparseCore.bigSep_erase' (s := Finset.univ) (Finset.mem_univ (bk 49)), SparseCore.bigSep_erase' (s := Finset.univ) (Φ := fun k => rPt d L k (G I T)) (Finset.mem_univ (bk 49)),
    show rowAt d L I T f₀ 50 (bk 49) = iprop(emp) by unfold rowAt; rw [if_neg (by decide), if_pos (by decide)],
    bigSep_congr (s := Finset.univ.erase (bk 49)) (Φ := rowAt d L I T f₀ 50) (Ψ := fun k => rPt d L k (G I T)) (fun k hk => by
      have h1 : k.val ≠ 49 := fun e => (Finset.mem_erase.mp hk).1 (Fin.ext e)
      have h2 := k.isLt
      unfold rowAt; rw [if_pos (by omega)])]
  iintro ⟨HG, -, H⟩
  isplitl [HG]; · iexact HG
  iexact H

/-! ## The invariant -/

/-- The share of the index list beside slot `p` of the ring. -/
def qs (q : PosShare TreeShare) (p : Fin 2) : PosShare TreeShare := if p = 0 then q.left else q.right

def inPart (t : ℕ) : sProp 𝕄 :=
  if t < 50 then iInfl d L I (qs qx (sl t)) (sl t) (bk t) else iFree d L I (qs qx (sl t)) (sl t)
def outPart (t : ℕ) : sProp 𝕄 :=
  if 0 < t then oInfl d L I T (sl (t + 1)) (bk (t - 1)) else oFree d L (sl (t + 1))

/-- What the tile holds before trip `t`, beside the carried counters. -/
def inv (O : CellTallies nD τ sig (HIx 1)) (W : Waits sig (HIx 1)) (t : ℕ) (acc : BitVec 32 × BitVec 32 × BitVec 32 × BitVec 32 × BitVec 32) : sProp 𝕄 :=
  iprop(⌜acc = carry t⌝ ∗ Transfers.MayWaits (th d L) (default : HIx 1) O
    ∗ tPt d L T qt ∗ semVal (th d L, .dma cc0_scoped4.sem) 0
    ∗ inPart d L I qx t ∗ iFree d L I (qs qx (sl (t + 1))) (sl (t + 1))
    ∗ outPart d L I T t ∗ oFree d L (sl t)
    ∗ rows d L I T f₀ t
    ∗ ∃ W', ⌜∀ p ∈ W', p ∈ W ∨ p.2 = none⌝ ∗ owes (th d L) O W')

variable [FloatOps F]

/-- The first part of trip `t`: the next block's indices are asked for, unless this is the last. -/
theorem part1_wp (t : Fin k0_t1_loop.trips) {Ψ} :
    iFree d L I (qs qx (sl (t.val + 1))) (sl (t.val + 1)) ⊢ iprop((inPart d L I qx (t.val + 1) -∗
          Ψ ⟨chk3 t, chk2 t, chk1 L t, Words.trip t, isFirst t, isLast t, cur L t, prev L t, next L t, asked L t, Scalar.cmpi .ne (cur L t) (prev L t)⟩)
      -∗ wp frame (wpE (defs₀ (F := F)) 𝒱₀ (th d L) none) Set.univ
          (k0_part1 (F := F) L tabV (Memref.isWhole_whole _) idxV (Memref.isWhole_whole _) outV (Memref.isWhole_whole _)
            iBuf (Memref.isWhole_whole _) cc0_scoped1 oBuf (Memref.isWhole_whole _) cc0_scoped3 cc0_scoped4 (base L) 0#32 1#32 t
            (BitVec.ofNat 32 (min (t.val + 1) 50)) (BitVec.ofNat 32 t.val) (BitVec.ofNat 32 t.val) (BitVec.ofNat 32 (t.val - 1)) (BitVec.ofNat 32 (t.val % 50))) Ψ) := by
  rw [k0_part1_eq_skeleton]
  unfold k0_part1_skel
  simp only [Prog.bind_op, Prog.bind_ret, Prog.lift]
  rw [wp_assume_of _ _ _ _ (chk3 t), wp_assume_of _ _ _ _ (chk2 t), wp_assume_of _ _ _ _ (chk1 L t)]
  by_cases h1 : t.val + 1 < 50
  · simp only [dif_pos ((cond1_iff L t).mpr h1), Prog.bind_op, Prog.bind_ret]
    unfold inPart
    rw [if_pos h1]
    iintro Hif HK
    iapply issueIn d L I (qs qx (sl (t.val + 1))) (sl (t.val + 1)) (bk (t.val + 1))
        (iBlk_at L (bk (t.val + 1)) ((off5_eq L t h1).trans (by rw [bk_val h1])) _) (iSlot_at (sl (t.val + 1)) (off4_eq t h1) _)
        (iSem_at (sl (t.val + 1)) (off6_eq t h1) _) $$ Hif
    iintro Hi
    simp only [wp_pure, Prog.bind_ret]
    imodintro
    iapply HK $$ Hi
  · simp only [dif_neg (fun e => h1 ((cond1_iff L t).mp e)), wp_pure]
    unfold inPart
    rw [if_neg h1]
    iintro Hif HK
    imodintro
    iapply HK $$ Hif

/-- The wait record a step may leave: what stood before it and waits of the tile's own. -/
def recOf (O : CellTallies nD τ sig (HIx 1)) (W : Waits sig (HIx 1)) : sProp 𝕄 :=
  iprop(∃ W', ⌜∀ p ∈ W', p ∈ W ∨ p.2 = none⌝ ∗ owes (th d L) O W')

theorem recOf_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with rfl | hp
  · exact Or.inr rfl
  · exact h p hp

/-- The second part of trip `t`: the block's indices have come, and the rows they name are gathered. -/
theorem part2_wp (hI : ∀ j, (I j).toNat < 100000) (O : CellTallies nD τ sig (HIx 1)) (W : Waits sig (HIx 1))
    (t : Fin k0_t1_loop.trips) (x1 x2 x3 x4 x5 x6 x8 k1 k2 k3) {Ψ} :
    iprop(Transfers.MayWaits (th d L) (default : HIx 1) O ∗ tPt d L T qt ∗ semVal (th d L, .dma cc0_scoped4.sem) 0
        ∗ inPart d L I qx t ∗ (∃ f, oPt d L (sl t) f) ∗ recOf d L O W)
      ⊢ iprop((iprop(tPt d L T qt ∗ semVal (th d L, .dma cc0_scoped4.sem) 0 ∗ iFree d L I (qs qx (sl t)) (sl t)
          ∗ oPt d L (sl t) (oC I T L (bk t)) ∗ recOf d L O W) -∗ Ψ ⟨⟩)
      -∗ wp frame (wpE (defs₀ (F := F)) 𝒱₀ (th d L) none) Set.univ
          (k0_part2 (F := F) L tabV (Memref.isWhole_whole _) idxV (Memref.isWhole_whole _) outV (Memref.isWhole_whole _)
            iBuf (Memref.isWhole_whole _) cc0_scoped1 oBuf (Memref.isWhole_whole _) cc0_scoped3 cc0_scoped4 t
            (BitVec.ofNat 32 (min (t.val + 1) 50)) (BitVec.ofNat 32 t.val) (BitVec.ofNat 32 t.val) (BitVec.ofNat 32 (t.val - 1)) (BitVec.ofNat 32 (t.val % 50))
            k3 k2 k1 x1 x2 x3 x4 x5 x6 x8) Ψ) := by
  have ht : t.val < 50 := lt_of_lt_of_eq t.isLt trips_eq
  rw [k0_part2_eq_skeleton]
  unfold k0_part2_skel inPart recOf
  rw [if_pos ht]
  simp only [dif_pos (cond2_eq L t), Prog.bind_op, Prog.bind_ret, Prog.lift, ite_self]
  iintro ⟨#Hmw, Ht, Hsg, Hin, ⟨%f, Hof⟩, ⟨%W', %hW', HO⟩⟩ HK
  iapply waitIn d L I (qs qx (sl t)) (sl t) (bk t) (iSlot_at (sl t) (off7_eq t) _) (iSem_at (sl t) (off9_eq t) _) $$ [Hin HO]
  · isplitr; · iexact Hmw
    isplitl [Hin]; · iexact Hin
    iexact HO
  iintro ⟨⟨Hi, Hv, Hx⟩, HO⟩
  iapply issueGather d L I T hI qt (sl t) (bk t) f (oSlot_at (sl t) (off10_eq t) _) (offs_at (sl t) (off11_eq t) _) $$ [Ht Hsg Hof Hi]
  · isplitl [Ht]; · iexact Ht
    isplitl [Hof]; · iexact Hof
    isplitl [Hi]; · iexact Hi
    iexact Hsg
  iintro Hfl
  iapply waitGather d L I T qt (sl t) (bk t) (oSlot_at (sl t) (off10_eq t) _) $$ [Hfl HO]
  · isplitr; · iexact Hmw
    isplitl [Hfl]; · iexact Hfl
    iexact HO
  iintro ⟨⟨Ho, Ht, Hi⟩, Hsg, HO⟩
  simp only [wp_pure]
  imodintro
  iapply HK
  isplitl [Ht]; · iexact Ht
  isplitl [Hsg]; · iexact Hsg
  isplitl [Hi Hv Hx]
  · unfold iFree
    isplitl [Hi]; · iexists _; iexact Hi
    isplitl [Hv]; · iexact Hv
    iexact Hx
  isplitl [Ho]; · iexact Ho
  iexists insert (SemLoc.dma cc0_scoped4.sem, (default : HIx 1)) (insert (SemLoc.dma (iSem (sl t)), (default : HIx 1)) W')
  isplitr
  · ipureintro
    exact recOf_insert _ (recOf_insert _ hW')
  · iexact HO

theorem trip (hI : ∀ j, (I j).toNat < 100000) (O : CellTallies nD τ sig (HIx 1)) (W : Waits sig (HIx 1))
    (t : Fin k0_t1_loop.trips) (acc : BitVec 32 × BitVec 32 × BitVec 32 × BitVec 32 × BitVec 32) :
    inv d L I T f₀ qt qx O W t acc
      ⊢ wp frame (wpE (defs₀ (F := F)) 𝒱₀ (th d L) none) Set.univ
          (k0_t1_body L tabV (Memref.isWhole_whole _) idxV (Memref.isWhole_whole _) outV (Memref.isWhole_whole _)
            iBuf (Memref.isWhole_whole _) cc0_scoped1 oBuf (Memref.isWhole_whole _) cc0_scoped3 cc0_scoped4 (base L) t acc)
          (inv d L I T f₀ qt qx O W (t.val + 1)) := by
  have ht : t.val < 50 := lt_of_lt_of_eq t.isLt trips_eq
  unfold inv oFree
  rw [rows_take d L I T f₀ ht]
  iintro ⟨%hacc, #Hmw, Ht, Hsg, Hin, Hif, Hout, ⟨Hof, Hov⟩, ⟨Hr, Hrest⟩, HO⟩
  subst hacc
  unfold carry k0_t1_body
  simp only [wp_bind]
  iapply part1_wp d L I qx t $$ Hif
  iintro Hin'
  iapply part2_wp d L I T qt qx hI O W t $$ [Ht Hsg Hin Hof HO]
  · isplitr; · iexact Hmw
    isplitl [Ht]; · iexact Ht
    isplitl [Hsg]; · iexact Hsg
    isplitl [Hin]; · iexact Hin
    isplitl [Hof]; · iexact Hof
    unfold recOf
    iexact HO
  iintro ⟨Ht, Hsg, Hif, Ho, HO⟩
  simp only [dif_pos (cond5_eq L t), Prog.lift, ite_self, Prog.bind_op, Prog.bind_ret, pure_bind]
  have hb := bk_val ht
  iapply issueOut d L I T (sl t) (bk t) f₀ (oSlot_at (sl t) (off12_eq t) _)
      (oBlk_at L (bk t) ((off13_eq L t).trans (by rw [hb])) _) (oSem_at (sl t) (off14_eq t) _) $$ [Ho Hr Hov]
  · isplitl [Ho]; · iexact Ho
    isplitl [Hr]; · iexact Hr
    iexact Hov
  iintro Hfl
  have hin : (iFree d L I (qs qx (sl t)) (sl t) : sProp 𝕄) ⊢ iFree d L I (qs qx (sl (t.val + 1 + 1))) (sl (t.val + 1 + 1)) := by
    rw [show t.val + 1 + 1 = t.val + 2 from rfl, sl_add_two]
  have hout : (oInfl d L I T (sl t) (bk t) : sProp 𝕄) ⊢ outPart d L I T (t.val + 1) := by
    unfold outPart
    rw [if_pos (Nat.succ_pos _), show t.val + 1 + 1 = t.val + 2 from rfl, sl_add_two, Nat.add_sub_cancel]
  ihave Hif := hin $$ Hif
  ihave Hfl := hout $$ Hfl
  unfold recOf
  by_cases h0 : 0 < t.val
  · simp only [dif_pos ((cond7_iff L t).mpr h0)]
    have hb' := bk_val (show t.val - 1 < 50 by omega)
    have hp : (outPart d L I T t.val : sProp 𝕄) ⊢ oInfl d L I T (sl (t.val + 1)) (bk (t.val - 1)) := by unfold outPart; rw [if_pos h0]
    ihave Hout := hp $$ Hout
    icases HO with ⟨%W', %hW', HO⟩
    iapply waitOut d L I T (sl (t.val + 1)) (bk (t.val - 1)) (congrArg (fun m : Memref sig .scVector .hbm S128x128 .f32 => m.view.dmaCredit) (oBlk_at L (bk (t.val - 1)) ((off16_eq L t h0).trans (by rw [hb'])) _))
        (oSem_at (sl (t.val + 1)) ((off17_eq t).trans (by rw [sl_pred h0])) _) $$ [Hout HO]
    · isplitr; · iexact Hmw
      isplitl [Hout]; · iexact Hout
      iexact HO
    iintro ⟨⟨Hr, Ho⟩, Hov, HO⟩
    simp only [wp_pure]
    imodintro
    isplitr; · ipureintro; exact carry_step L t
    isplitr; · iexact Hmw
    isplitl [Ht]; · iexact Ht
    isplitl [Hsg]; · iexact Hsg
    isplitl [Hin']; · iexact Hin'
    isplitl [Hif]; · iexact Hif
    isplitl [Hfl]; · iexact Hfl
    isplitl [Ho Hov]
    · isplitl [Ho]; · iexists _; iexact Ho
      iexact Hov
    isplitl [Hr Hrest]
    · iapply rows_next d L I T f₀ h0 ht
      isplitl [Hr]; · iexact Hr
      iexact Hrest
    iexists insert (SemLoc.dma (oSem (sl (t.val + 1))), (default : HIx 1)) W'
    isplitr
    · ipureintro
      exact recOf_insert _ hW'
    · iexact HO
  · simp only [dif_neg (fun e => h0 ((cond7_iff L t).mp e)), wp_pure]
    have hp : (outPart d L I T t.val : sProp 𝕄) ⊢ iprop((∃ f, oPt d L (sl (t.val + 1)) f) ∗ semVal (th d L, .dma (oSem (sl (t.val + 1)))) 0) := by
      unfold outPart; rw [if_neg h0]; exact BI.Entails.refl _
    have hr : (bigSep (Finset.univ.erase (bk t.val)) (rowAt d L I T f₀ t.val) : sProp 𝕄) ⊢ rows d L I T f₀ (t.val + 1) := by
      rw [show t.val = 0 by omega]; exact rows_first d L I T f₀
    ihave Hout := hp $$ Hout
    imodintro
    isplitr; · ipureintro; exact carry_step L t
    isplitr; · iexact Hmw
    isplitl [Ht]; · iexact Ht
    isplitl [Hsg]; · iexact Hsg
    isplitl [Hin']; · iexact Hin'
    isplitl [Hif]; · iexact Hif
    isplitl [Hfl]; · iexact Hfl
    isplitl [Hout]; · iexact Hout
    isplitl [Hrest]
    · iapply hr $$ Hrest
    iexact HO

end

end Cert.Proof.Tile

end
-- ==== Proof.Body.lean ====
/-
  The gather kernel on one vector subcore, whole: the first index copy asked for, the fifty trips (Tile), and the last
  output copy waited for. It is given a read share of the table and of the index list, its fifty blocks of the output and its
  own scratch, and brings back the blocks holding the gathered rows.
-/
module

public import proofs.«01_k».proof.Proof.Tile

@[expose] public section

noncomputable section

namespace Cert.Proof.Body

open Cert.KernelIdeal Cert.KernelIdeal.Gen Cert.Proof.Words Cert.Proof.Slots Cert.Proof.Setup Cert.Proof.Rules Cert.Proof.Tile

open Idealize.ShloMosaic Idealize.ShloMosaic.Shape Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The rings' slots make up their buffers -/

theorem mem_iSlot (p : Fin 2) (y : S2x1x128.Idx) : y ∈ (iSlot p).view.set ↔ (y 0 : Fin 2) = p := by
  constructor
  · intro h
    obtain ⟨x, -, rfl⟩ := Finset.mem_map.mp h
    rw [iSlot_emb]
  · intro h
    refine Finset.mem_map.mpr ⟨ix2 (0 : Fin 1) (y 2 : Fin 128), Finset.mem_univ _, (iSlot_emb p _).trans ?_⟩
    funext a
    match a with
    | 0 => exact h.symm
    | 1 => exact Subsingleton.elim (α := Fin 1) _ _
    | 2 => rfl

theorem mem_oSlot (p : Fin 2) (y : S2x128x128.Idx) : y ∈ (oSlot p).view.set ↔ (y 0 : Fin 2) = p := by
  constructor
  · intro h
    obtain ⟨x, -, rfl⟩ := Finset.mem_map.mp h
    rw [oSlot_emb]
  · intro h
    refine Finset.mem_map.mpr ⟨ix2 (y 1 : Fin 128) (y 2 : Fin 128), Finset.mem_univ _, (oSlot_emb p _).trans ?_⟩
    funext a
    match a with
    | 0 => exact h.symm
    | 1 => rfl
    | 2 => rfl

abbrev iSet (p : Fin 2) : Finset S2x1x128.Idx := (iSlot p).view.set
abbrev oSet (p : Fin 2) : Finset S2x128x128.Idx := (oSlot p).view.set

theorem iSet_disjoint : ∀ p ∈ (Finset.univ : Finset (Fin 2)), ∀ p' ∈ (Finset.univ : Finset (Fin 2)), p ≠ p' → Disjoint (iSet p) (iSet p') :=
  fun p _ p' _ h => Finset.disjoint_left.mpr fun y hy hy' => h (((mem_iSlot p y).mp hy).symm.trans ((mem_iSlot p' y).mp hy'))
theorem oSet_disjoint : ∀ p ∈ (Finset.univ : Finset (Fin 2)), ∀ p' ∈ (Finset.univ : Finset (Fin 2)), p ≠ p' → Disjoint (oSet p) (oSet p') :=
  fun p _ p' _ h => Finset.disjoint_left.mpr fun y hy hy' => h (((mem_oSlot p y).mp hy).symm.trans ((mem_oSlot p' y).mp hy'))
theorem iSet_cover : (Finset.univ : Finset (Fin 2)).biUnion iSet = Finset.univ := by
  ext y; simp only [Finset.mem_biUnion, Finset.mem_univ, true_and, iff_true]; exact ⟨y 0, (mem_iSlot _ y).mpr rfl⟩
theorem oSet_cover : (Finset.univ : Finset (Fin 2)).biUnion oSet = Finset.univ := by
  ext y; simp only [Finset.mem_biUnion, Finset.mem_univ, true_and, iff_true]; exact ⟨y 0, (mem_oSlot _ y).mpr rfl⟩

theorem bigSep_two (Φ : Fin 2 → sProp 𝕄) : bigSep Finset.univ Φ = iprop(Φ 0 ∗ Φ 1) := by
  rw [SparseCore.bigSep_erase' (Finset.mem_univ (0 : Fin 2)), show (Finset.univ : Finset (Fin 2)).erase 0 = {1} by decide, bigSep_singleton]

section

variable (d : Dev nD) (L : grid0.Coords) (I : S1x204800.Idx → BitVec 32) (T : S100000x128.Idx → F .f32) (f₀ : S204800x128.Idx → F .f32)
  (qt qx : PosShare TreeShare)

theorem iBuf_split (f : S2x1x128.Idx → BitVec 32) :
    ((th d L).loc cc0_scoped0 ↦{fullShare} f : sProp 𝕄) = iprop(iPt d L 0 f ∗ iPt d L 1 f) := by
  rw [show ((th d L).loc cc0_scoped0 ↦{fullShare} f : sProp 𝕄) = (th d L).loc cc0_scoped0 ↦[(Finset.univ : Finset (Fin 2)).biUnion iSet]{fullShare} f by
    rw [iSet_cover]]
  rw [pointsTo_biUnion Finset.univ (ℓ := (th d L).loc cc0_scoped0) iSet iSet_disjoint, bigSep_two]
theorem oBuf_split (f : S2x128x128.Idx → F .f32) :
    ((th d L).loc cc0_scoped2 ↦{fullShare} f : sProp 𝕄) = iprop(oPt d L 0 f ∗ oPt d L 1 f) := by
  rw [show ((th d L).loc cc0_scoped2 ↦{fullShare} f : sProp 𝕄) = (th d L).loc cc0_scoped2 ↦[(Finset.univ : Finset (Fin 2)).biUnion oSet]{fullShare} f by
    rw [oSet_cover]]
  rw [pointsTo_biUnion Finset.univ (ℓ := (th d L).loc cc0_scoped2) oSet oSet_disjoint, bigSep_two]

theorem iBuf_join : iprop((∃ f, iPt d L 0 f) ∗ ∃ f, iPt d L 1 f) ⊢ (iprop(∃ f, (th d L).loc cc0_scoped0 ↦{fullShare} f) : sProp 𝕄) := by
  iintro ⟨⟨%f, Hf⟩, ⟨%g, Hg⟩⟩
  ihave H := (pointsTo_biUnion_join (ℓ := (th d L).loc cc0_scoped0) (q := fullShare) (Val := Elt F) Finset.univ iSet (![f, g]) f iSet_disjoint) $$ [Hf Hg]
  · rw [bigSep_two]
    isplitl [Hf]; · iexact Hf
    iexact Hg
  icases H with ⟨%u, -, Hu⟩
  rw [iSet_cover]
  iexists u; iexact Hu
theorem oBuf_join : iprop((∃ f, oPt d L 0 f) ∗ ∃ f, oPt d L 1 f) ⊢ (iprop(∃ f, (th d L).loc cc0_scoped2 ↦{fullShare} f) : sProp 𝕄) := by
  iintro ⟨⟨%f, Hf⟩, ⟨%g, Hg⟩⟩
  ihave H := (pointsTo_biUnion_join (ℓ := (th d L).loc cc0_scoped2) (q := fullShare) (Val := Elt F) Finset.univ oSet (![f, g]) f oSet_disjoint) $$ [Hf Hg]
  · rw [bigSep_two]
    isplitl [Hf]; · iexact Hf
    iexact Hg
  icases H with ⟨%u, -, Hu⟩
  rw [oSet_cover]
  iexists u; iexact Hu

variable [FloatOps F]

/-! ## From the slots -/

/-- What a tile holds between calls: its shares, its rings idle. -/
def idle : sProp 𝕄 :=
  iprop(tPt d L T qt ∗ semVal (th d L, .dma cc0_scoped4.sem) 0 ∗ iFree d L I (qs qx 0) 0 ∗ iFree d L I (qs qx 1) 1 ∗ oFree d L 0 ∗ oFree d L 1)

theorem core (hI : ∀ j, (I j).toNat < 100000) (O : CellTallies nD τ sig (HIx 1)) (W : Waits sig (HIx 1)) :
    iprop(Transfers.MayWaits (th d L) (default : HIx 1) O ∗ idle d L I T qt qx ∗ (bigSep Finset.univ fun k => rPt d L k f₀) ∗ owes (th d L) O W)
      ⊢ wp frame (wpE (defs₀ (F := F)) 𝒱₀ (th d L) none) Set.univ
          (cc0_gather_kernel (F := F) L tabV (Memref.isWhole_whole _) idxV (Memref.isWhole_whole _) outV (Memref.isWhole_whole _)
            iBuf (Memref.isWhole_whole _) cc0_scoped1 oBuf (Memref.isWhole_whole _) cc0_scoped3 cc0_scoped4)
          fun _ => iprop(idle d L I T qt qx ∗ (bigSep Finset.univ fun k => rPt d L k (G I T)) ∗ recOf d L O W) := by
  rw [cc0_gather_kernel_eq_skeleton]
  unfold cc0_gather_kernel_skel idle
  simp only [k0_part3_eq_skeleton, k0_part4_eq_skeleton]
  unfold k0_part3_skel k0_part4_skel
  simp only [Prog.bind_op, Prog.bind_ret, Prog.lift, pure_bind, bind_assoc]
  iintro ⟨#Hmw, ⟨Ht, Hsg, Hi0, Hi1, Ho0, Ho1⟩, Hr, HO⟩
  iapply issueIn d L I (qs qx 0) 0 (bk 0) (iBlk_at L (bk 0) (off2_eq L) _) (iSlot_at 0 k0_off1_eq _) (iSem_at 0 k0_off3_eq _) $$ Hi0
  iintro Hin
  iapply (Scf.wp_for_bind frame (wpE (defs₀ (F := F)) 𝒱₀ (th d L) none) Set.univ _ _ _ _ _ _ (inv d L I T f₀ qt qx O W) (trip d L I T f₀ qt qx hI O W)) $$ [Ht Hsg Hin Hi1 Ho0 Ho1 Hr HO]
  · unfold Tile.inv
    isplitr; · ipureintro; exact carry_zero
    isplitr; · iexact Hmw
    isplitl [Ht]; · iexact Ht
    isplitl [Hsg]; · iexact Hsg
    isplitl [Hin]
    · iapply (show (iInfl d L I (qs qx 0) 0 (bk 0) : sProp 𝕄) ⊢ inPart d L I qx 0 from by
        unfold inPart; rw [if_pos (by decide)]; exact BI.Entails.refl _) $$ Hin
    isplitl [Hi1]; · iexact Hi1
    isplitl [Ho1]
    · iapply (show (oFree d L 1 : sProp 𝕄) ⊢ outPart d L I T 0 from by
        unfold outPart; rw [if_neg (by decide)]; exact BI.Entails.refl _) $$ Ho1
    isplitl [Ho0]; · iexact Ho0
    isplitl [Hr]; · rw [rows_zero]; iexact Hr
    iexists W
    isplitr; · ipureintro; exact fun p hp => Or.inl hp
    iexact HO
  iintro %acc HI
  ihave HI := (show inv d L I T f₀ qt qx O W (Scf.trips k0_t1_loop.lb k0_t1_loop.ub k0_t1_loop.st) acc ⊢ inv d L I T f₀ qt qx O W 50 acc from by
    rw [show Scf.trips k0_t1_loop.lb k0_t1_loop.ub k0_t1_loop.st = 50 from trips_eq]) $$ HI
  unfold Tile.inv
  icases HI with ⟨%hacc, -, Ht, Hsg, Hin, Hif, Hout, Hof, Hrows, ⟨%W', %hW', HO⟩⟩
  have hc : acc = (50#32, 50#32, 50#32, 49#32, 0#32) := hacc.trans carry_fifty
  subst hc
  ihave Hi0 := (show inPart d L I qx 50 ⊢ (iFree d L I (qs qx 0) 0 : sProp 𝕄) from by
        unfold inPart; rw [if_neg (by decide)]; exact BI.Entails.refl _) $$ Hin
  ihave Hi1 := (show iFree d L I (qs qx (sl (50 + 1))) (sl (50 + 1)) ⊢ (iFree d L I (qs qx 1) 1 : sProp 𝕄) from BI.Entails.refl _) $$ Hif
  ihave Hout := (show outPart d L I T 50 ⊢ (oInfl d L I T 1 (bk 49) : sProp 𝕄) from by
        unfold outPart; rw [if_pos (by decide)]; exact BI.Entails.refl _) $$ Hout
  ihave Ho0 := (show oFree d L (sl 50) ⊢ (oFree d L 0 : sProp 𝕄) from BI.Entails.refl _) $$ Hof
  rw [wp_assume_of _ _ _ _ (chk5 L), wp_assume_of _ _ _ _ chk4]
  iapply waitOut d L I T 1 (bk 49) (congrArg (fun m : Memref sig .scVector .hbm S128x128 .f32 => m.view.dmaCredit) (oBlk_at L (bk 49) (off19_eq L) _))
      (oSem_at 1 off20_eq _) $$ [Hout HO]
  · isplitr; · iexact Hmw
    isplitl [Hout]; · iexact Hout
    iexact HO
  iintro ⟨⟨Hr, Ho⟩, Hov, HO⟩
  simp only [wp_pure]
  imodintro
  isplitl [Ht Hsg Hi0 Hi1 Ho0 Ho Hov]
  · isplitl [Ht]; · iexact Ht
    isplitl [Hsg]; · iexact Hsg
    isplitl [Hi0]; · iexact Hi0
    isplitl [Hi1]; · iexact Hi1
    isplitl [Ho0]; · iexact Ho0
    unfold oFree
    isplitl [Ho]; · iexists _; iexact Ho
    iexact Hov
  isplitl [Hr Hrows]
  · iapply rows_last d L I T f₀
    isplitl [Hr]; · iexact Hr
    iexact Hrows
  unfold recOf
  iexists insert (SemLoc.dma (oSem 1), (default : HIx 1)) W'
  isplitr
  · ipureintro
    exact recOf_insert _ hW'
  · iexact HO

/-! ## From the tile's own scratch -/

abbrev cell (s : DmaSem sig) : GSem nD τ sig := (th d L, .dma s)

omit [FloatOps F] in
theorem mem_cell (s : DmaSem sig) (h : (SemLoc.dma s : SemLoc sig).isScoped .scVector = true) : cell d L s ∈ ownCells (th d L) :=
  mem_ownCells.mpr ⟨rfl, h⟩
omit [FloatOps F] in
theorem cell_ne {s s' : DmaSem sig} (h : s ≠ s') : cell d L s ≠ cell d L s' := fun e => h (SemLoc.dma.inj (Prod.mk.inj e).2)

/-- The rest of the tile's cells, beside the five the kernel uses. -/
abbrev otherCells : Finset (GSem nD τ sig) :=
  (((((ownCells (th d L)).erase (cell d L cc0_scoped4.sem)).erase (cell d L (iSem 0))).erase (cell d L (iSem 1))).erase (cell d L (oSem 0))).erase (cell d L (oSem 1))

omit [FloatOps F] in
theorem ownSems0_V :
    (ownSems0 (th d L) : sProp 𝕄)
      = iprop(semVal (cell d L cc0_scoped4.sem) 0 ∗ semVal (cell d L (iSem 0)) 0 ∗ semVal (cell d L (iSem 1)) 0
          ∗ semVal (cell d L (oSem 0)) 0 ∗ semVal (cell d L (oSem 1)) 0 ∗ bigSep (otherCells d L) fun g => semVal g 0) := by
  unfold SparseCore.Cfg.ownSems0
  rw [SparseCore.bigSep_erase' (mem_cell d L cc0_scoped4.sem (by decide)),
    SparseCore.bigSep_erase' (Finset.mem_erase.mpr ⟨cell_ne d L (by decide), mem_cell d L (iSem 0) (by decide)⟩),
    SparseCore.bigSep_erase' (Finset.mem_erase.mpr ⟨cell_ne d L (by decide), Finset.mem_erase.mpr ⟨cell_ne d L (by decide), mem_cell d L (iSem 1) (by decide)⟩⟩),
    SparseCore.bigSep_erase' (Finset.mem_erase.mpr ⟨cell_ne d L (by decide), Finset.mem_erase.mpr ⟨cell_ne d L (by decide),
      Finset.mem_erase.mpr ⟨cell_ne d L (by decide), mem_cell d L (oSem 0) (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), mem_cell d L (oSem 1) (by decide)⟩⟩⟩⟩)]

/-- The rest of the tile's buffers, beside the two rings. -/
abbrev otherBufs : Finset (DevRef τ sig) :=
  ((ownRefs (τ := τ) (th d L).2).erase ((th d L).2.devRef cc0_scoped0)).erase ((th d L).2.devRef cc0_scoped2)

omit [FloatOps F] in
theorem ownBufs_V :
    (ownBufs (th d L) : sProp 𝕄)
      = iprop((∃ f, (th d L).loc cc0_scoped0 ↦{fullShare} f) ∗ (∃ f, (th d L).loc cc0_scoped2 ↦{fullShare} f)
          ∗ bigSep (otherBufs d L) fun b => iprop(∃ f, ((d, b) : Loc nD τ sig) ↦{fullShare} f)) := by
  unfold SparseCore.Cfg.ownBufs
  refine (SparseCore.bigSep_erase' (SparseCore.Cfg.mem_ownRefs_of_owner (p := (th d L).2)
    (b := (th d L).2.devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := (th d L).2) (b := (th d L).2.devRef cc0_scoped2) rfl⟩)]

omit [FloatOps F] in
theorem tab_set : (tabAll).view.set = Finset.univ := by
  ext y
  simp only [Finset.mem_univ, iff_true]
  exact Finset.mem_map.mpr ⟨y, Finset.mem_univ _, tabAll_emb y⟩

/-- The whole table at share `q`. -/
abbrev tabPt (q : PosShare TreeShare) : sProp 𝕄 := (tabV).view.loc (th d L) ↦{q} T

/-- What a tile is given for the call, at contents `f` of its blocks. -/
def share (f : S204800x128.Idx → F .f32) : sProp 𝕄 :=
  iprop(tabPt d L T qt ∗ xAll d L I qx ∗ bigSep Finset.univ fun k => rPt d L k f)

theorem tile_body (hF : (K (F := F)).Facts) (hI : ∀ j, (I j).toNat < 100000) (O : CellTallies nD τ sig (HIx 1)) (W : Waits sig (HIx 1)) (hO : ∀ g, O g none = 0) :
    iprop(levAts (K (F := F)).L (K (F := F)).lev ∗ emp ∗ share d L I T qt qx f₀
        ∗ scopedBufs (th d L) ∗ scopedSems0 (th d L) ∗ owes (th d L) O W)
      ⊢ wp frame (wpE (defs₀ (F := F)) 𝒱₀ (th d L) none) Set.univ
          (cc0_gather_kernel (F := F) L tabV (Memref.isWhole_whole _) idxV (Memref.isWhole_whole _) outV (Memref.isWhole_whole _)
            iBuf (Memref.isWhole_whole _) cc0_scoped1 oBuf (Memref.isWhole_whole _) cc0_scoped3 cc0_scoped4)
          fun _ => iprop(share d L I T qt qx (G I T) ∗ scopedBufs (th d L) ∗ scopedSems0 (th d L)
            ∗ ∃ W', ⌜∀ p ∈ W', p ∈ W ∨ p.2 = none⌝ ∗ owes (th d L) O W') := by
  rw [(K (F := F)).scopedBufs_V hF d (cV L) (jV L), SparseCore.Cfg.scopedSems0_V (Val := Elt F) d (cV L) (jV L), ownSems0_V, ownBufs_V]
  unfold share
  iintro ⟨#Hlv, -, ⟨Ht, Hx, Hr⟩, ⟨⟨%fi, Hi⟩, ⟨%fo, Ho⟩, Hbufs⟩, ⟨HsG, HsI0, HsI1, HsO0, HsO1, Hsems⟩, HO⟩
  ihave Hmw := (show levAts (K (F := F)).L (K (F := F)).lev ⊢ Transfers.MayWaits (th d L) (default : HIx 1) O from
    (K (F := F)).mayWaits_none (thr := th d L) hO) $$ Hlv
  ihave Hi := (Entails.of_eq (iBuf_split (F := F) d L fi)) $$ Hi
  icases Hi with ⟨Hi0, Hi1⟩
  ihave Ho := (Entails.of_eq (oBuf_split (F := F) d L fo)) $$ Ho
  icases Ho with ⟨Ho0, Ho1⟩
  ihave Hx := (pointsTo_share (f := I) (PosShare.mem_left_op_right qx)).1 $$ Hx
  icases Hx with ⟨Hx0, Hx1⟩
  ihave Ht := (show tabPt d L T qt ⊢ tPt d L T qt from by
    unfold tPt; rw [tab_set]) $$ Ht
  iapply (wp_wand frame (wpE (defs₀ (F := F)) 𝒱₀ (th d L) none) Set.univ
    (Q := fun _ => iprop(idle d L I T qt qx ∗ (bigSep Finset.univ fun k => rPt d L k (G I T)) ∗ recOf d L O W))) $$ [Ht Hx0 Hx1 Hr Hi0 Hi1 Ho0 Ho1 HsG HsI0 HsI1 HsO0 HsO1 HO]
  · iapply core d L I T f₀ qt qx hI O W
    unfold idle iFree oFree
    isplitr; · iexact Hmw
    isplitr [Hr HO]
    · isplitl [Ht]; · iexact Ht
      isplitl [HsG]; · iexact HsG
      isplitl [Hi0 HsI0 Hx0]
      · isplitl [Hi0]; · iexists fi; iexact Hi0
        isplitl [HsI0]; · iexact HsI0
        iexact Hx0
      isplitl [Hi1 HsI1 Hx1]
      · isplitl [Hi1]; · iexists fi; iexact Hi1
        isplitl [HsI1]; · iexact HsI1
        iexact Hx1
      isplitl [Ho0 HsO0]
      · isplitl [Ho0]; · iexists fo; iexact Ho0
        iexact HsO0
      isplitl [Ho1]; · iexists fo; iexact Ho1
      iexact HsO1
    isplitl [Hr]; · iexact Hr
    iexact HO
  iintro %a ⟨Hidle, Hr, HO⟩
  unfold idle iFree oFree recOf
  icases Hidle with ⟨Ht, HsG, ⟨Hi0, HsI0, Hx0⟩, ⟨Hi1, HsI1, Hx1⟩, ⟨Ho0, HsO0⟩, Ho1, HsO1⟩
  isplitl [Ht Hx0 Hx1 Hr]
  · isplitl [Ht]
    · iapply (show tPt d L T qt ⊢ tabPt d L T qt from by unfold tPt; rw [tab_set]) $$ Ht
    isplitl [Hx0 Hx1]
    · iapply (pointsTo_share (f := I) (PosShare.mem_left_op_right qx)).2
      isplitl [Hx0]; · iexact Hx0
      iexact Hx1
    iexact Hr
  isplitl [Hi0 Hi1 Ho0 Ho1 Hbufs]
  · isplitl [Hi0 Hi1]
    · iapply iBuf_join (F := F) d L
      isplitl [Hi0]; · iexact Hi0
      iexact Hi1
    isplitl [Ho0 Ho1]
    · iapply oBuf_join (F := F) d L
      isplitl [Ho0]; · iexact Ho0
      iexact Ho1
    iexact Hbufs
  isplitl [HsG HsI0 HsI1 HsO0 HsO1 Hsems]
  · isplitl [HsG]; · iexact HsG
    isplitl [HsI0]; · iexact HsI0
    isplitl [HsI1]; · iexact HsI1
    isplitl [HsO0]; · iexact HsO0
    isplitl [HsO1]; · iexact HsO1
    iexact Hsems
  iexact HO

end

end Cert.Proof.Body

end
-- ==== Proof.Launch.lean ====
/-
  The SparseCore call's launch: what the TensorCore hands to the thirty-two tiles and gets back. The table and the index
  list are read by every tile, each at a read share of its own; the output's rows are dealt in blocks of 128, fifty to a
  tile, and come back holding the gathered rows.
-/
module

public import proofs.«01_k».proof.Proof.Body
public import Idealize.ShloMosaic.Lib.SparseCore.Quiescent

@[expose] public section

set_option maxRecDepth 16384

noncomputable section

namespace Cert.Proof.Launch

open Cert.KernelIdeal Cert.KernelIdeal.Gen Cert.Proof.Words Cert.Proof.Slots Cert.Proof.Setup Cert.Proof.Rules Cert.Proof.Body

open Idealize.ShloMosaic Idealize.ShloMosaic.Shape Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tiles -/

/-- The grid coordinates of SparseCore `c`'s tile `i`. -/
def coordsV (c : Fin (grid0.bound 0)) (i : Fin (grid0.bound 1)) : grid0.Coords :=
  fun | 0 => c | 1 => i | ⟨_ + 2, h⟩ => absurd h (Nat.not_lt.2 (Nat.le_add_left _ _))

/-- A tile's coordinates from its pair of numbers. -/
abbrev at2 (t : Fin 2 × Fin 16) : grid0.Coords := coordsV t.1 t.2

theorem tileNo_at2 (t : Fin 2 × Fin 16) : tileNo (at2 t) = 16 * t.1.val + t.2.val := rfl

theorem tileNo_inj {t t' : Fin 2 × Fin 16} (h : tileNo (at2 t) = tileNo (at2 t')) : t = t' := by
  rw [tileNo_at2, tileNo_at2] at h
  have h1 := t.2.isLt
  have h2 := t'.2.isLt
  exact Prod.ext (Fin.ext (by omega)) (Fin.ext (by omega))

/-! ## The output dealt in blocks -/

theorem mem_oBlk (L : grid0.Coords) (k : Fin 50) (y : S204800x128.Idx) : y ∈ (oBlk L k).view.set ↔ (y 0 : Fin 204800).val / 128 = blk L k := by
  constructor
  · intro h
    obtain ⟨x, -, rfl⟩ := Finset.mem_map.mp h
    rw [oBlk_emb]
    have hx : (x 0 : Fin 128).val < 128 := (x 0 : Fin 128).isLt
    show (128 * blk L k + (x 0 : Fin 128).val) / 128 = blk L k
    omega
  · intro h
    have hy : (y 0 : Fin 204800).val % 128 < 128 := Nat.mod_lt _ (by decide)
    refine Finset.mem_map.mpr ⟨ix2 (⟨(y 0 : Fin 204800).val % 128, hy⟩ : Fin 128) (y 1 : Fin 128), Finset.mem_univ _, (oBlk_emb L k _).trans ?_⟩
    funext a
    match a with
    | 0 =>
      apply Fin.ext
      show 128 * blk L k + (y 0 : Fin 204800).val % 128 = (y 0 : Fin 204800).val
      omega
    | 1 => rfl

/-- The block of tile `s.1`'s trip `s.2`. -/
abbrev blkSet (s : (Fin 2 × Fin 16) × Fin 50) : Finset S204800x128.Idx := (oBlk (at2 s.1) s.2).view.set

theorem blkSet_disjoint : ∀ s ∈ (Finset.univ : Finset ((Fin 2 × Fin 16) × Fin 50)), ∀ s' ∈ (Finset.univ : Finset ((Fin 2 × Fin 16) × Fin 50)),
    s ≠ s' → Disjoint (blkSet s) (blkSet s') := by
  intro s _ s' _ h
  refine Finset.disjoint_left.mpr fun y hy hy' => h ?_
  have e := ((mem_oBlk _ _ y).mp hy).symm.trans ((mem_oBlk _ _ y).mp hy')
  have h1 := s.2.isLt
  have h2 := s'.2.isLt
  unfold blk at e
  exact Prod.ext (tileNo_inj (by omega)) (Fin.ext (by omega))

theorem blkSet_mem (y : S204800x128.Idx) : y ∈ (Finset.univ : Finset ((Fin 2 × Fin 16) × Fin 50)).biUnion blkSet := by
  simp only [Finset.mem_biUnion, Finset.mem_univ, true_and]
  have hy : (y 0 : Fin 204800).val < 204800 := (y 0 : Fin 204800).isLt
  refine ⟨((⟨(y 0 : Fin 204800).val / 102400, by omega⟩, ⟨(y 0 : Fin 204800).val / 6400 % 16, by omega⟩), ⟨(y 0 : Fin 204800).val / 128 % 50, by omega⟩),
    (mem_oBlk _ _ y).mpr ?_⟩
  show (y 0 : Fin 204800).val / 128 = 50 * (16 * ((y 0 : Fin 204800).val / 102400) + (y 0 : Fin 204800).val / 6400 % 16) + (y 0 : Fin 204800).val / 128 % 50
  omega

/-! ## The operands, and their split over the tiles -/

/-- The table, the index list and the output, as the TensorCore names them. -/
abbrev tabLoc (d : Dev nD) : Loc nD τ sig := (d.tc : Thread nD τ).loc main_arg4
abbrev idxLoc (d : Dev nD) : Loc nD τ sig := (d.tc : Thread nD τ).loc main_v1
abbrev outLoc (d : Dev nD) : Loc nD τ sig := (d.tc : Thread nD τ).loc main_v2

variable (I : Dev nD → S1x204800.Idx → BitVec 32) (A : Dev nD → S100000x128.Idx → F .f32) (f₀ : Dev nD → S204800x128.Idx → F .f32)

abbrev tabAt (d : Dev nD) (q : PosShare TreeShare) : sProp 𝕄 := (tabLoc d) ↦{q} (A d)
abbrev idxAt (d : Dev nD) (q : PosShare TreeShare) : sProp 𝕄 := (idxLoc d) ↦{q} (I d)
abbrev outAt (d : Dev nD) (f : S204800x128.Idx → F .f32) : sProp 𝕄 := (outLoc d) ↦{fullShare} f

/-- The tiles in one row of thirty-two. -/
def tileEquiv : Fin 2 × Fin 16 ≃ Fin 32 := finProdFinEquiv

/-- The read share of a tile. -/
abbrev rd (t : Fin 2 × Fin 16) : PosShare TreeShare := Transfers.shareTok fullShare 32 (tileEquiv t)

/-- What tile `t` is given, at contents `f` of the output. -/
def tileShare (d : Dev nD) (t : Fin 2 × Fin 16) (f : S204800x128.Idx → F .f32) : sProp 𝕄 :=
  share d (at2 t) (I d) (A d) (rd t) (rd t) f

theorem tab_split (d : Dev nD) : tabAt A d fullShare ⊣⊢ iprop(tabAt A d (Transfers.shareDrop fullShare 32)
    ∗ bigSep Finset.univ fun t : Fin 2 × Fin 16 => tabAt A d (rd t)) := by
  rw [← bigSep_univ_equiv tileEquiv (fun n => tabAt A d (Transfers.shareTok fullShare 32 n))]
  exact Transfers.pointsTo_toks fullShare 32

theorem idx_split (d : Dev nD) : idxAt (F := F) I d fullShare ⊣⊢ iprop(idxAt (F := F) I d (Transfers.shareDrop fullShare 32)
    ∗ bigSep Finset.univ fun t : Fin 2 × Fin 16 => idxAt (F := F) I d (rd t)) := by
  rw [← bigSep_univ_equiv tileEquiv (fun n => idxAt (F := F) I d (Transfers.shareTok fullShare 32 n))]
  exact Transfers.pointsTo_toks fullShare 32

theorem out_split (d : Dev nD) (f : S204800x128.Idx → F .f32) : outAt d f
    = bigSep Finset.univ fun t : Fin 2 × Fin 16 => bigSep Finset.univ fun k : Fin 50 => rPt d (at2 t) k f := by
  rw [← bigSep_univ_prod (fun s : (Fin 2 × Fin 16) × Fin 50 => rPt d (at2 s.1) s.2 f)]
  have hc : (Finset.univ : Finset (Idx (outLoc d))) = (Finset.univ : Finset ((Fin 2 × Fin 16) × Fin 50)).biUnion (β := Idx (outLoc d)) blkSet :=
    Finset.ext fun y => ⟨fun _ => blkSet_mem y, fun _ => Finset.mem_univ _⟩
  refine Eq.trans (b := (pointsTo (outLoc d) ((Finset.univ : Finset ((Fin 2 × Fin 16) × Fin 50)).biUnion (β := Idx (outLoc d)) blkSet) fullShare f : sProp 𝕄)) ?_ ?_
  · exact congrArg (fun J : Finset (Idx (outLoc d)) => (pointsTo (outLoc d) J fullShare f : sProp 𝕄)) hc
  have h1 : (_ : sProp 𝕄) = _ := pointsTo_biUnion (ℓ := outLoc d) (q := fullShare) (f := f) Finset.univ blkSet blkSet_disjoint
  refine h1.trans ?_
  refine bigSep_congr fun s _ => ?_
  have h2 : (oBlk (at2 s.1) s.2).view.loc (th d (at2 s.1)) = outLoc d := rfl
  rfl

/-- What core `c` is handed, at contents `f` of its blocks: its tiles' shares. -/
def coreShare (d : Dev nD) (c : Fin 2) (f : S204800x128.Idx → F .f32) : sProp 𝕄 :=
  bigSep Finset.univ fun i : Fin 16 => tileShare I A d (c, i) f

/-- All the tiles' shares, by SparseCore and tile. -/
def pool (d : Dev nD) (f : S204800x128.Idx → F .f32) : sProp 𝕄 :=
  bigSep Finset.univ fun c : Fin 2 => coreShare I A d c f

/-- What the TensorCore keeps. -/
def rest (d : Dev nD) : sProp 𝕄 :=
  iprop(tabAt A d (Transfers.shareDrop fullShare 32) ∗ idxAt (F := F) I d (Transfers.shareDrop fullShare 32))

theorem pool_eq (d : Dev nD) (f : S204800x128.Idx → F .f32) : pool I A d f
    = iprop((bigSep Finset.univ fun t : Fin 2 × Fin 16 => tabAt A d (rd t)) ∗ (bigSep Finset.univ fun t : Fin 2 × Fin 16 => idxAt (F := F) I d (rd t)) ∗ outAt d f) := by
  unfold pool coreShare
  rw [← bigSep_univ_prod (fun t : Fin 2 × Fin 16 => tileShare I A d t f), out_split, ← bigSep_sep', ← bigSep_sep']
  unfold tileShare share
  rfl

theorem deal (d : Dev nD) (f : S204800x128.Idx → F .f32) :
    iprop(tabAt A d fullShare ∗ idxAt (F := F) I d fullShare ∗ outAt d f) ⊢ iprop(rest I A d ∗ pool I A d f) := by
  rw [pool_eq]
  unfold rest
  iintro ⟨Ht, Hi, Ho⟩
  ihave Ht := (tab_split A d).1 $$ Ht
  ihave Hi := (idx_split I d).1 $$ Hi
  icases Ht with ⟨Ht0, Ht⟩
  icases Hi with ⟨Hi0, Hi⟩
  isplitl [Ht0 Hi0]
  · isplitl [Ht0] <;> iassumption
  isplitl [Ht]; · iexact Ht
  isplitl [Hi] <;> iassumption

theorem collect (d : Dev nD) (f : S204800x128.Idx → F .f32) :
    iprop(rest I A d ∗ pool I A d f) ⊢ iprop(tabAt A d fullShare ∗ idxAt (F := F) I d fullShare ∗ outAt d f) := by
  rw [pool_eq]
  unfold rest
  iintro ⟨⟨Ht0, Hi0⟩, Ht, Hi, Ho⟩
  isplitl [Ht0 Ht]
  · iapply (tab_split A d).2; isplitl [Ht0] <;> iassumption
  isplitl [Hi0 Hi]
  · iapply (idx_split I d).2; isplitl [Hi0] <;> iassumption
  iexact Ho

instance share_storable (d : Dev nD) (t : Fin 2 × Fin 16) (f : S204800x128.Idx → F .f32) :
    BI.Storable (upEmb : UEmb _ 𝕄) (tileShare I A d t f) := by unfold tileShare share; infer_instance
instance core_storable (d : Dev nD) (c : Fin 2) (f : S204800x128.Idx → F .f32) :
    BI.Storable (upEmb : UEmb _ 𝕄) (coreShare I A d c f) := by unfold coreShare; infer_instance

theorem core_deal (d : Dev nD) (c : Fin 2) (f g : S204800x128.Idx → F .f32) :
    coreShare I A d c f ⊢ |={Set.univ}=> iprop((bigSep Finset.univ fun i : Fin 16 => tileShare I A d (c, i) f)
      ∗ ((bigSep Finset.univ fun i : Fin 16 => tileShare I A d (c, i) g) -∗ coreShare I A d c g)) := by
  unfold coreShare
  iintro H; imodintro
  isplitl [H]; · iexact H
  iintro H; iexact H

section
variable [FloatOps F]

theorem tile_task (hF : (K (F := F)).Facts) (hI : ∀ d j, (I d j).toNat < 100000) (d : Dev nD) (t : Fin 2 × Fin 16) (O : CellTallies nD τ sig (HIx 1)) (W : Waits sig (HIx 1))
    (hO : ∀ g, O g none = 0) :
    iprop(levAts (K (F := F)).L (K (F := F)).lev ∗ emp ∗ tileShare I A d t (f₀ d)
        ∗ scopedBufs (th d (at2 t)) ∗ scopedSems0 (th d (at2 t)) ∗ owes (th d (at2 t)) O W)
      ⊢ wp frame (wpE (defs₀ (F := F)) 𝒱₀ (th d (at2 t)) none) Set.univ
          (cc0_gather_kernel (F := F) (at2 t) tabV (Memref.isWhole_whole _) idxV (Memref.isWhole_whole _) outV (Memref.isWhole_whole _)
            iBuf (Memref.isWhole_whole _) cc0_scoped1 oBuf (Memref.isWhole_whole _) cc0_scoped3 cc0_scoped4)
          fun _ => iprop(tileShare I A d t (G (I d) (A d)) ∗ scopedBufs (th d (at2 t)) ∗ scopedSems0 (th d (at2 t))
            ∗ ∃ W', ⌜∀ p ∈ W', p ∈ W ∨ p.2 = none⌝ ∗ owes (th d (at2 t)) O W') :=
  tile_body d (at2 t) (I d) (A d) (f₀ d) (rd t) (rd t) hF (hI d) O W hO

end

attribute [local irreducible] tileShare coreShare Slots.G

/-! ## What the handshakes carry -/

def P : (K (F := F)).Pay (nD := nD) (Val := Elt F) (Name := ℕ) (U := UU) where
  st := fun q d c => match q with | 0 => coreShare I A d (Fin.cast nCore_zero c) (f₀ d)
  dn := fun q d c => match q with | 0 => coreShare I A d (Fin.cast nCore_zero c) (G (I d) (A d))
  go := fun q d c i => match q with | 0 => tileShare I A d (Fin.cast nCore_zero c, Fin.cast nSub_zero i) (f₀ d)
  td := fun q d c i => match q with | 0 => tileShare I A d (Fin.cast nCore_zero c, Fin.cast nSub_zero i) (G (I d) (A d))
  x := fun _ _ => iprop(emp)

instance P_storable : (P I A f₀).IsStorable where
  st q d c := match q with | 0 => core_storable I A d (Fin.cast nCore_zero c) (f₀ d)
  dn q d c := match q with | 0 => core_storable I A d (Fin.cast nCore_zero c) (G (I d) (A d))
  go q d c i := match q with | 0 => share_storable I A d (Fin.cast nCore_zero c, Fin.cast nSub_zero i) (f₀ d)
  td q d c i := match q with | 0 => share_storable I A d (Fin.cast nCore_zero c, Fin.cast nSub_zero i) (G (I d) (A d))

theorem st_eq (d : Dev nD) : (bigSep Finset.univ fun c : Fin ((K (F := F)).nCore 0) => (P I A f₀).st 0 d c) = pool I A d (f₀ d) := rfl
theorem dn_eq (d : Dev nD) : (bigSep Finset.univ fun c : Fin ((K (F := F)).nCore 0) => (P I A f₀).dn 0 d c) = pool I A d (G (I d) (A d)) := rfl

theorem vecSplit : (K (F := F)).VecSplit' (P I A f₀) 0 :=
  fun d c => core_deal I A d (Fin.cast nCore_zero c) (f₀ d) (G (I d) (A d))

/-! ## The tiles' obligation -/

variable [FloatOps F]

theorem defs₀_vector (c : Fin τ.nSC) (s : Fin τ.nSub) :
    defs₀ (F := F) (.scVector c s) 0 ()
      = SparseCore.onTile hcore0 hsub0 (fun c s => cc0_gather_kernel (F := F) (coordsV c s) tabV (Memref.isWhole_whole _) idxV (Memref.isWhole_whole _) outV (Memref.isWhole_whole _)
            iBuf (Memref.isWhole_whole _) cc0_scoped1 oBuf (Memref.isWhole_whole _) cc0_scoped3 cc0_scoped4) ⟨⟩ c s := rfl

omit [FloatOps F] in
/-- A tile's waits were all for its own copies. -/
theorem waits_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'
  isplitr
  · ipureintro; exact fun p hp => (hW' p hp).imp_right Or.inl
  iexact HO

theorem tileObl (hF : (K (F := F)).Facts) (hI : ∀ d j, (I d j).toNat < 100000) : (K (F := F)).TileObl (D (F := F)) 𝒱 (P I A f₀) v₀ 0 := by
  intro d c i O W hO _ _
  simp only [show (P I A f₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task I A f₀ hF hI d (Fin.cast nCore_zero c, Fin.cast nSub_zero i) O W hO).trans (wp_mono frame _ _ fun _ => waits_post)

end Cert.Proof.Launch

end
-- ==== Proof.Dense.lean ====
/-
  The TensorCore kernel's body at one point of its grid: from the staged blocks of the packed ids, the gathered word rows,
  the position, age and segment tables, the scale and the shift, it leaves in the result's block the value `blockVal` of
  them, and everything else as it was.
-/
module

public import proofs.«01_k».proof.Proof.Setup
public import Idealize.ShloMosaic.Lib.VecWindow

@[expose] public section

noncomputable section

namespace Cert.Proof.Dense

open Cert.KernelIdeal Cert.KernelIdeal.Gen Cert.Proof.Setup
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The value -/

/-- Row 0 of the segment table. -/
def segRow0 (s : Vec F S2x128 .f32) : Vec F S1x128 .f32 :=
  VecWindow.window s ![0, 0] S1x128.size inb_S2x128_S1x128_0_0

/-- Row 1 of the segment table. -/
def segRow1 (s : Vec F S2x128 .f32) : Vec F S1x128 .f32 :=
  VecWindow.window s ![1, 0] S1x128.size inb_S2x128_S1x128_1_0

/-- The result's block: the embedding of each of the 512 tokens, normalised along its 128 channels, scaled and shifted. -/
def blockVal (ids : Vec F S1x1x512 .i32) (word : Vec F S512x128 .f32) (posi : Vec F S512x128 .bf16) (age : Vec F S128x128 .bf16)
    (seg : Vec F S2x128 .f32) (gamma beta : Vec F S1x128 .f32) : Vec F S512x128 .f32 :=
  k1_pay1 (k1_pay3 (F := F) ids) (k1_pay4 ids posi) (k1_pay5 ids age) (segRow0 seg) (k1_pay6 (segRow0 seg) (segRow1 seg)) word gamma beta

/-! ## Reading and writing a block -/

/-- A load through a rectangle of a memref owned at contents `X` reads `X` there. -/
theorem load_owns (c : Dev nD) {E : Set ℕ} {Q : PUnit → sProp 𝕄} {sp : CoreSpace} {s : Shape} {e : EltTy}
    {m : Memref sig .tc sp s e} {r : Rect s} {hl : m.view.LoadsAt r.toLoadRect}
    {k : (r.shape.Idx → Elt F e) → Prog (TpuEff nD τ sig (Elt F) Λ₀ .tc) PUnit} {X : s.Idx → Elt F e} :
    (owns (c : Thread nD τ) m fullShare X : sProp 𝕄)
      ⊢ iprop((owns (c : Thread nD τ) m fullShare X
          -∗ wp frame (wpE (defs₀ (F := F)) 𝒱₀ (c : Thread nD τ) none) E (k fun y => X (r.emb y)) Q)
        -∗ wp frame (wpE (defs₀ (F := F)) 𝒱₀ (c : Thread nD τ) none) E (.op (.load m r.toLoadRect hl) k) Q) := by
  unfold owns
  iintro ⟨%f, %hf, H⟩ Hk
  subst hf
  iapply (wp_load (m := m) (r := r.toLoadRect) 𝒱₀ (c : Thread nD τ) none E (m.view.setOn_subset_set _)) $$ H
  iintro H
  iapply Hk
  iexists f
  isplitr
  · ipureintro; rfl
  · iexact H

/-- An unmasked store of a memref's own sizes leaves the stored value. -/
theorem store_owns (c : Dev nD) {E : Set ℕ} {Q : PUnit → sProp 𝕄} {sp : CoreSpace} {s : Shape} {e : EltTy}
    {m : Memref sig .tc sp s e} {off : Fin s.rank → ℕ} {inb : ∀ a, off a + s.size a ≤ s.size a}
    {w : (Rect.unit off s.size inb).shape.Idx → Elt F e}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) PUnit} {X : s.Idx → Elt F e} :
    (owns (c : Thread nD τ) m fullShare X : sProp 𝕄)
      ⊢ iprop((owns (c : Thread nD τ) m fullShare w
          -∗ wp frame (wpE (defs₀ (F := F)) 𝒱₀ (c : Thread nD τ) none) E (k ⟨⟩) Q)
        -∗ wp frame (wpE (defs₀ (F := F)) 𝒱₀ (c : Thread nD τ) none) E (.op (.store m (Rect.unit off s.size inb) w Finset.univ hx hm) k) Q) := by
  unfold owns
  iintro ⟨%f, %hf, H⟩ Hk
  iapply (wp_store_writes₀ 𝒱₀ (c : Thread nD τ) none E
    (show (m.access (Rect.unit off s.size inb)).set ⊆ m.view.set from m.view.set_slice_subset _)) $$ H
  iintro H
  iapply Hk
  iexists m.view.writes (Elt F) f [⟨Rect.unit off s.size inb, w⟩]
  isplitr
  · ipureintro; exact View.read_writes_full m.view f inb w []
  · iexact H

omit [FloatOps F] in
/-- A block read through the rectangle of its own sizes is the block. -/
theorem emb_full {s : Shape} {e : EltTy} (X : s.Idx → Elt F e) {off : Fin s.rank → ℕ} (inb : ∀ a, off a + s.size a ≤ s.size a) :
    (fun y => X ((Rect.unit off s.size inb).emb y)) = X :=
  funext fun y => congrArg X (funext fun a => Fin.ext (by
    show off a + 1 * (y a).val = (y a).val
    have := inb a; omega))

/-! ## The body -/

/-- The body run from its eight staged blocks. -/
theorem tc_body (c : Dev nD) (i : grid1.Coords)
    (M1 : Memref sig .tc .vmem S1x1x512 .i32) (h1 : M1.IsWhole) (M2 : Memref sig .tc .vmem S512x128 .f32) (h2 : M2.IsWhole)
    (M3 : Memref sig .tc .vmem S512x128 .bf16) (h3 : M3.IsWhole) (M4 : Memref sig .tc .vmem S128x128 .bf16) (h4 : M4.IsWhole)
    (M5 : Memref sig .tc .vmem S2x128 .f32) (h5 : M5.IsWhole) (M6 : Memref sig .tc .vmem S1x128 .f32) (h6 : M6.IsWhole)
    (M7 : Memref sig .tc .vmem S1x128 .f32) (h7 : M7.IsWhole) (M8 : Memref sig .tc .vmem S512x128 .f32) (h8 : M8.IsWhole)
    (X1 : Vec F S1x1x512 .i32) (X2 : Vec F S512x128 .f32) (X3 : Vec F S512x128 .bf16) (X4 : Vec F S128x128 .bf16)
    (X5 : Vec F S2x128 .f32) (X6 X7 : Vec F S1x128 .f32) (X8 : Vec F S512x128 .f32) (E : Set ℕ) (Q : PUnit → sProp 𝕄) :
    iprop((owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7 ∗ owns (c : Thread nD τ) M8 fullShare X8)
      ∗ (iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7 ∗ owns (c : Thread nD τ) M8 fullShare (blockVal X1 X2 X3 X4 X5 X6 X7)) -∗ Q ⟨⟩))
      ⊢ wp frame (wpE (defs₀ (F := F)) 𝒱₀ (c : Thread nD τ) none) E (cc1__tc_body i M1 h1 M2 h2 M3 h3 M4 h4 M5 h5 M6 h6 M7 h7 M8 h8) Q := by
  rw [cc1__tc_body_eq_skeleton]
  unfold cc1__tc_body_skel
  rw [k1_part1_eq_skeleton]
  unfold k1_part1_skel
  simp only [Prog.lift, Prog.bind_op, Prog.bind_ret, pure_bind]
  iintro ⟨⟨H1, H2, H3, H4, H5, H6, H7, H8⟩, Hk⟩
  iapply (load_owns c) $$ H1; iintro H1
  iapply (load_owns c) $$ H3; iintro H3
  iapply (load_owns c) $$ H4; iintro H4
  iapply (load_owns c) $$ H5; iintro H5
  iapply (load_owns c) $$ H5; iintro H5
  iapply (load_owns c) $$ H2; iintro H2
  iapply (load_owns c) $$ H6; iintro H6
  iapply (load_owns c) $$ H7; iintro H7
  iapply (load_owns c) $$ H8; iintro H8
  iapply (store_owns c) $$ H8; iintro H8
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  simp only [emb_full]
  iexact H8

end Cert.Proof.Dense

end
-- ==== Proof.Region.lean ====
/-
  The TensorCore kernel's pipelined region: four hundred points, each normalising one block of 512 tokens. Entered with
  the TensorCore's buffers at any contents `V`, it leaves in its result's array the value `dense` of its seven operands and
  every other buffer as it was.
-/
module

public import proofs.«01_k».proof.Proof.Dense
public import proofs.«01_k».proof.Proof.Gen.KernelIdeal.Launch
public import proofs.«01_k».proof.Proof.Gen.KernelIdeal.Points
public import Idealize.ShloMosaic.Lib.Pipeline.Regions
public import Idealize.ShloMosaic.Lib.Pipeline.FrameBody
public import Idealize.ShloMosaic.Lib.Pipeline.Value
public import Idealize.ShloMosaic.Lib.ValueIdx

@[expose] public section

noncomputable section

namespace Cert.Proof.Region

open Cert.KernelIdeal Cert.KernelIdeal.Gen Cert.Proof.Setup Cert.Proof.Dense
open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The result's array -/

/-- The ids of the 512 tokens of block `t`. -/
def idsBlk (ids : Vec F S400x1x512 .i32) (t : Fin 400) : Vec F S1x1x512 .i32 :=
  fun x => ids (ix3 t (x 1 : Fin 1) (x 2 : Fin 512))

/-- The word rows of the 512 tokens of block `t`. -/
def wordBlk (word : Vec F S204800x128 .f32) (t : Fin 400) : Vec F S512x128 .f32 :=
  fun x => word (ix2 ⟨512 * t.val + (x 0 : Fin 512).val, by have h : (x 0).val < 512 := (x 0).isLt; have := t.isLt; show 512 * t.val + (x 0).val < 204800; omega⟩ (x 1 : Fin 128))

/-- The result's array: each block of 512 tokens at its block value. -/
def dense (ids : Vec F S400x1x512 .i32) (word : Vec F S204800x128 .f32) (posi : Vec F S512x128 .bf16) (age : Vec F S128x128 .bf16)
    (seg : Vec F S2x128 .f32) (gamma beta : Vec F S1x128 .f32) : Vec F S204800x128 .f32 := fun y =>
  have h : (y 0 : Fin 204800).val / 512 < 400 := by have h : (y 0).val < 204800 := (y 0).isLt; show (y 0).val / 512 < 400; omega
  blockVal (idsBlk ids ⟨(y 0 : Fin 204800).val / 512, h⟩) (wordBlk word ⟨(y 0 : Fin 204800).val / 512, h⟩) posi age seg gamma beta
    (ix2 ⟨(y 0 : Fin 204800).val % 512, Nat.mod_lt _ (by norm_num)⟩ (y 1 : Fin 128))

/-! ## The proof data, at an entry valuation -/

variable (V : (c : Dev nD) → (b : Ref sig .tc) → Buf (Elt F) ((c : Thread nD τ).loc b))

/-- What the fetch at point `t` stages of window `w`'s array. -/
abbrev stg (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region keeps no scoped buffer but its windows'. -/
abbrev Φc (c : Dev nD) : sProp 𝕄 := Pipeline.scopedRest (Ix := HIx 1) (Name := ℕ) (U := UU) (Lvl := ℕ) (Val := Elt F) spec1 c

/-- The waits recorded so far are of the first call's levels at most. -/
abbrev lowWaits (c : Dev nD) : Set (SemLoc sig × HIx 1) := {p | (K (F := F)).lev ((c : Thread nD τ), p.1) p.2 ≤ 8}

def dat (c : Dev nD) : Dat τ (Elt F) (HIx 1) ℕ UU ℕ cfg1 c where
  A w := V c (Pipeline.arrRef spec1 w)
  after w t := match w with
    | ⟨0, _⟩ => stg V c 0 t
    | ⟨1, _⟩ => stg V c 1 t
    | ⟨2, _⟩ => stg V c 2 t
    | ⟨3, _⟩ => stg V c 3 t
    | ⟨4, _⟩ => stg V c 4 t
    | ⟨5, _⟩ => stg V c 5 t
    | ⟨6, _⟩ => stg V c 6 t
    | ⟨7, _⟩ => blockVal (F := F) (stg V c 0 t) (stg V c 1 t) (stg V c 2 t) (stg V c 3 t) (stg V c 4 t) (stg V c 5 t) (stg V c 6 t)
    | ⟨_ + 8, h⟩ => absurd h (Nat.not_lt.2 (Nat.le_add_left _ _))
  Φ _ := Φc c
  q _ := fullShare
  owed _ := 0
  recorded _ := lowWaits (F := F) c

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c
  | ⟨_ + 1, h⟩ => absurd h (Nat.not_lt.2 (Nat.le_add_left _ _))

/-! ## The body obligation -/

theorem before_0 (c : Dev nD) (t : Fin cfg1.N) (d) : (dat V c).before 0 t d = stg V c 0 t :=
  (Pipeline.Dat.before_in_eq_fetched (dat V c) 0 rfl (fun _ => rfl) (fun _ _ _ => rfl) (fun _ => rfl) t d).trans rfl
theorem before_1 (c : Dev nD) (t : Fin cfg1.N) (d) : (dat V c).before 1 t d = stg V c 1 t :=
  (Pipeline.Dat.before_in_eq_fetched (dat V c) 1 rfl (fun _ => rfl) (fun _ _ _ => rfl) (fun _ => rfl) t d).trans rfl
theorem before_2 (c : Dev nD) (t : Fin cfg1.N) (d) : (dat V c).before 2 t d = stg V c 2 t :=
  (Pipeline.Dat.before_in_eq_fetched (dat V c) 2 rfl (fun _ => rfl) (fun _ _ _ => rfl) (fun _ => rfl) t d).trans rfl
theorem before_3 (c : Dev nD) (t : Fin cfg1.N) (d) : (dat V c).before 3 t d = stg V c 3 t :=
  (Pipeline.Dat.before_in_eq_fetched (dat V c) 3 rfl (fun _ => rfl) (fun _ _ _ => rfl) (fun _ => rfl) t d).trans rfl
theorem before_4 (c : Dev nD) (t : Fin cfg1.N) (d) : (dat V c).before 4 t d = stg V c 4 t :=
  (Pipeline.Dat.before_in_eq_fetched (dat V c) 4 rfl (fun _ => rfl) (fun _ _ _ => rfl) (fun _ => rfl) t d).trans rfl
theorem before_5 (c : Dev nD) (t : Fin cfg1.N) (d) : (dat V c).before 5 t d = stg V c 5 t :=
  (Pipeline.Dat.before_in_eq_fetched (dat V c) 5 rfl (fun _ => rfl) (fun _ _ _ => rfl) (fun _ => rfl) t d).trans rfl
theorem before_6 (c : Dev nD) (t : Fin cfg1.N) (d) : (dat V c).before 6 t d = stg V c 6 t :=
  (Pipeline.Dat.before_in_eq_fetched (dat V c) 6 rfl (fun _ => rfl) (fun _ _ _ => rfl) (fun _ => rfl) t d).trans rfl

theorem body_obligation (c : Dev nD) : BodyObligation (dat V c) (defs₀ (F := F)) 𝒱₀ none Set.univ := fun t => by
  rw [bigSep_W1, bigSep_W1]
  simp only [before_0, before_1, before_2, before_3, before_4, before_5, before_6]
  rw [show (dat V c).Φ t.castSucc = Φc c from rfl, show (dat V c).Φ t.succ = Φc c from rfl,
    show (dat V c).owesAt none t.succ = (dat V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (tc_body c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5))
    (st1_6 t) (hstage1_6 ((cfg1.slots t 6).cast nbuf1_6)) (st1_7 t) (hstage1_7 ((cfg1.slots t 7).cast nbuf1_7))
    (stg V c 0 t) (stg V c 1 t) (stg V c 2 t) (stg V c 3 t) (stg V c 4 t) (stg V c 5 t) (stg V c 6 t) _ Set.univ _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The staged blocks, and the result's array at the end -/

/-- A point of the grid as a number below 400. -/
abbrev pt (t : Fin cfg1.N) : Fin 400 := ⟨t.val, Nat.lt_of_lt_of_eq t.isLt N_1⟩

theorem coord_val (t : Fin cfg1.N) : (grid1.coords t 0).val = t.val := by
  have h : t.val < 400 := (pt t).isLt
  rw [Pipeline.Grid.coords_val (S := 1) (B := 400) t 0 (by decide) rfl, Nat.div_one, Nat.mod_eq_of_lt h]

theorem word_val (t : Fin cfg1.N) : (BitVec.ofNat 32 (grid1.coords t 0).val).toNat = t.val := by
  have h : t.val < 400 := (pt t).isLt
  rw [coord_val, BitVec.toNat_ofNat, Nat.mod_eq_of_lt (by omega)]

theorem stg_ids (c : Dev nD) (t : Fin cfg1.N) : stg V c 0 t = idsBlk (F := F) (V c main_v15) (pt t) :=
  funext fun x => congrArg (V c main_v15) (funext fun a => Fin.ext (by
    fin_cases a
    · show (BitVec.ofNat 32 (grid1.coords t 0).val).toNat * 1 + 1 * (x 0).val = t.val
      have h : (x 0).val < 1 := (x 0).isLt
      rw [word_val]; omega
    · show 0 * 1 + 1 * (x 1).val = (x 1).val
      omega
    · show 0 * 512 + 1 * (x 2).val = (x 2).val
      omega))

theorem stg_word (c : Dev nD) (t : Fin cfg1.N) : stg V c 1 t = wordBlk (F := F) (V c main_v2) (pt t) :=
  funext fun x => congrArg (V c main_v2) (funext fun a => Fin.ext (by
    fin_cases a
    · show (BitVec.ofNat 32 (grid1.coords t 0).val).toNat * 512 + 1 * (x 0).val = 512 * t.val + (x 0).val
      rw [word_val]; omega
    · show 0 * 128 + 1 * (x 1).val = (x 1).val
      omega))

theorem stg_posi (c : Dev nD) (t : Fin cfg1.N) : stg V c 2 t = V c main_v10 :=
  funext fun x => congrArg (V c main_v10) (funext fun a => Fin.ext (by
    fin_cases a
    · show 0 * 512 + 1 * (x 0).val = (x 0).val
      omega
    · show 0 * 128 + 1 * (x 1).val = (x 1).val
      omega))

theorem stg_age (c : Dev nD) (t : Fin cfg1.N) : stg V c 3 t = V c main_v14 :=
  funext fun x => congrArg (V c main_v14) (funext fun a => Fin.ext (by
    fin_cases a
    · show 0 * 128 + 1 * (x 0).val = (x 0).val
      omega
    · show 0 * 128 + 1 * (x 1).val = (x 1).val
      omega))

theorem stg_seg (c : Dev nD) (t : Fin cfg1.N) : stg V c 4 t = V c main_arg5 :=
  funext fun x => congrArg (V c main_arg5) (funext fun a => Fin.ext (by
    fin_cases a
    · show 0 * 2 + 1 * (x 0).val = (x 0).val
      omega
    · show 0 * 128 + 1 * (x 1).val = (x 1).val
      omega))

theorem stg_gamma (c : Dev nD) (t : Fin cfg1.N) : stg V c 5 t = V c main_v16 :=
  funext fun x => congrArg (V c main_v16) (funext fun a => Fin.ext (by
    fin_cases a
    · show 0 * 1 + 1 * (x 0).val = (x 0).val
      omega
    · show 0 * 128 + 1 * (x 1).val = (x 1).val
      omega))

theorem stg_beta (c : Dev nD) (t : Fin cfg1.N) : stg V c 6 t = V c main_v17 :=
  funext fun x => congrArg (V c main_v17) (funext fun a => Fin.ext (by
    fin_cases a
    · show 0 * 1 + 1 * (x 0).val = (x 0).val
      omega
    · show 0 * 128 + 1 * (x 1).val = (x 1).val
      omega))

/-- The result's array as the operands' arrays determine it. -/
abbrev denseAt (c : Dev nD) : Buf (Elt F) ((c : Thread nD τ).loc main_v18) :=
  dense (F := F) (V c main_v15) (V c main_v2) (V c main_v10) (V c main_v14) (V c main_arg5) (V c main_v16) (V c main_v17)

/-- Element `x` of the result's block `t` is row `512 t + x₀`. -/
theorem blk_row (t : Fin cfg1.N) (x : S512x128.Idx) :
    ((cfg1.win 7).blk t).view.emb x
      = (ix2 ⟨512 * t.val + (x 0).val, by have h : (x 0).val < 512 := (x 0).isLt; have ht : t.val < 400 := (pt t).isLt; show 512 * t.val + (x 0).val < 204800; omega⟩ (x 1 : Fin 128) : S204800x128.Idx) :=
  funext fun a => Fin.ext (by
    fin_cases a
    · show (BitVec.ofNat 32 (grid1.coords t 0).val).toNat * 512 + 1 * (x 0).val = 512 * t.val + (x 0).val
      rw [word_val]; omega
    · show 0 * 128 + 1 * (x 1).val = (x 1).val
      omega)

theorem flushed_eq (c : Dev nD) (t : Fin cfg1.N) :
    (dat V c).flushed 7 t = ((cfg1.win 7).blk t).view.read (Elt F) (denseAt V c) := by
  funext x
  show blockVal (F := F) (stg V c 0 t) (stg V c 1 t) (stg V c 2 t) (stg V c 3 t) (stg V c 4 t) (stg V c 5 t) (stg V c 6 t) x
    = denseAt V c (((cfg1.win 7).blk t).view.emb x)
  rw [blk_row, stg_ids, stg_word, stg_posi, stg_age, stg_seg, stg_gamma, stg_beta]
  have hx : (x 0).val < 512 := (x 0).isLt
  have ht : (⟨(512 * t.val + (x 0).val) / 512, by have ht : t.val < 400 := (pt t).isLt; omega⟩ : Fin 400) = pt t := Fin.ext (show (512 * t.val + (x 0).val) / 512 = t.val by omega)
  have hr : (⟨(512 * t.val + (x 0).val) % 512, Nat.mod_lt _ (by norm_num)⟩ : Fin 512) = (x 0 : Fin 512) := Fin.ext (show (512 * t.val + (x 0).val) % 512 = (x 0).val by omega)
  show _ = blockVal (F := F) (idsBlk _ ⟨(512 * t.val + (x 0).val) / 512, _⟩) (wordBlk _ ⟨(512 * t.val + (x 0).val) / 512, _⟩) _ _ _ _ _
    (ix2 ⟨(512 * t.val + (x 0).val) % 512, _⟩ (x 1 : Fin 128))
  rw [ht, hr]
  exact congrArg _ (eq_ix2 x)

/-- The result's array after the region. -/
theorem final_out (c : Dev nD) : (dat V c).arrAt 7 cfg1.N = denseAt V c :=
  (dat V c).arrAt_eq_of_cover 7 (denseAt V c) (fun t _ => flushed_eq V c t) fun y => by
    have hy : (y 0).val < 204800 := (y 0).isLt
    refine ⟨⟨(y 0).val / 512, Nat.lt_of_lt_of_eq (by omega : (y 0).val / 512 < 400) N_1.symm⟩, flush1_7 _, ?_⟩
    refine Finset.mem_map.mpr ⟨(ix2 ⟨(y 0).val % 512, Nat.mod_lt _ (by norm_num)⟩ (y 1 : Fin 128) : S512x128.Idx), Finset.mem_univ _, ?_⟩
    refine (blk_row _ _).trans ?_
    funext a
    refine Fin.ext ?_
    fin_cases a
    · show 512 * ((y 0).val / 512) + (y 0).val % 512 = (y 0).val
      omega
    · rfl

end Cert.Proof.Region

end
-- ==== Proof.Seg.lean ====
/-
  The TensorCore call as one step of @main: from all of the TensorCore's arrays at contents `V` to the same arrays with
  the result's alone changed, to the value `denseAt` of its operands.
-/
module

public import proofs.«01_k».proof.Proof.Region
public import Idealize.ShloMosaic.Lib.Pipeline.RegionsLoop

@[expose] public section

noncomputable section

namespace Cert.Proof.Region

open Cert.KernelIdeal Cert.KernelIdeal.Gen Cert.Proof.Setup Cert.Proof.Dense
open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (adm : (p : Fin 1) → (pcfgs (F := F) p).Adm)
variable (V V' : (c : Dev nD) → (b : Ref sig .tc) → Buf (Elt F) ((c : Thread nD τ).loc b))

/-- What thread `c` owes: nothing, having waited at the first call's levels at most. -/
abbrev owesLow (c : Dev nD) : sProp 𝕄 :=
  iprop(∃ W, ⌜(K (F := F)).WBelow (SparseCore.T (nD := nD) (τ := τ) c) W 8⌝ ∗ owes (SparseCore.T (nD := nD) (τ := τ) c) (0 : CellTallies nD τ sig (HIx 1)) W)

set_option backward.isDefEq.respectTransparency.types false in
/-- The region entered at `V` and left at `V'`, which is `V` but at the result. -/
def reg (hout : ∀ c, V' c main_v18 = denseAt V c) (hne : ∀ c (b : Ref sig .tc), b ≠ main_v18 → V' c b = V c b) :
    Pipeline.RegionSeg (pcfgs (F := F)) adm (pdats V adm) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesLow c)
  post c := iprop(unscopedBufs c (V' c) ∗ owesLow c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) (launch1).win (launch1).arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V adm) ((pdats V adm 0 c).share_full fun _ => rfl) (V c) (V' c) ((pdats V adm 0 c).arrAt · cfg1.N)
      (fun w => by
        fin_cases w
        · exact ((pdats V adm 0 c).arrAt_in 0 rfl _).trans (hne c main_v15 (by decide)).symm
        · exact ((pdats V adm 0 c).arrAt_in 1 rfl _).trans (hne c main_v2 (by decide)).symm
        · exact ((pdats V adm 0 c).arrAt_in 2 rfl _).trans (hne c main_v10 (by decide)).symm
        · exact ((pdats V adm 0 c).arrAt_in 3 rfl _).trans (hne c main_v14 (by decide)).symm
        · exact ((pdats V adm 0 c).arrAt_in 4 rfl _).trans (hne c main_arg5 (by decide)).symm
        · exact ((pdats V adm 0 c).arrAt_in 5 rfl _).trans (hne c main_v16 (by decide)).symm
        · exact ((pdats V adm 0 c).arrAt_in 6 rfl _).trans (hne c main_v17 (by decide)).symm
        · exact (final_out V c).trans (hout c).symm)
      (fun b hb => hne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · subst h; exact Nat.zero_le _
    iexact HO

end Cert.Proof.Region

end
-- ==== Proof.HostVals.lean ====
/-
  @main's array operations, in three runs around its two calls, and what the TensorCore's arrays hold along it: `val1`
  before the SparseCore call, `val2` after it, `val3` before the TensorCore call, `val4` after it, `val5` at the end.
  No step writes an argument.
-/
module

public import proofs.«01_k».proof.Proof.Launch
public import proofs.«01_k».proof.Proof.Seg
public import Idealize.ShloMosaic.Lib.StableHlo.RunRead

@[expose] public section

noncomputable section

namespace Cert.Proof.Main

open Cert.KernelIdeal Cert.KernelIdeal.Gen Cert.Proof.Setup Cert.Proof.Slots
open Idealize.ShloMosaic Idealize.ShloMosaic.StableHlo
open Idealize.SL.Sem

variable {F : FTy → Type} [FloatOps F]

/-! ## The three runs of array operations -/

/-- The word ids as one row. -/
abbrev ops1 : List (HloOp τ sig (Elt F)) :=
  [StableHlo.reshape main_arg0 main_v0 (rfl : (.i32 : EltTy) = .i32) shapeCasts_S1024x200_S204800,
   StableHlo.reshape main_v0 main_v1 (rfl : (.i32 : EltTy) = .i32) shapeCasts_S204800_S1x204800]

/-- The packed ids, the narrowed tables, the padded age table, the scale and shift rows. -/
abbrev ops2 : List (HloOp τ sig (Elt F)) :=
  [StableHlo.nullary main_c (constantI S_ 32 9#32),
   StableHlo.unary main_c main_v3 (broadcastInDim S1024x200 ![] bcast_S_S1024x200 : (⟨S_, .i32⟩ : BufTy).Contents (Elt F) → (⟨S1024x200, .i32⟩ : BufTy).Contents (Elt F)),
   StableHlo.binary main_arg1 main_v3 main_v4 (Host.shli : (⟨S1024x200, .i32⟩ : BufTy).Contents (Elt F) → (⟨S1024x200, .i32⟩ : BufTy).Contents (Elt F) → (⟨S1024x200, .i32⟩ : BufTy).Contents (Elt F)),
   StableHlo.binary main_arg3 main_v4 main_v5 (ori : (⟨S1024x200, .i32⟩ : BufTy).Contents (Elt F) → (⟨S1024x200, .i32⟩ : BufTy).Contents (Elt F) → (⟨S1024x200, .i32⟩ : BufTy).Contents (Elt F)),
   StableHlo.nullary main_c_0 (constantI S_ 32 16#32),
   StableHlo.unary main_c_0 main_v6 (broadcastInDim S1024x200 ![] bcast_S_S1024x200 : (⟨S_, .i32⟩ : BufTy).Contents (Elt F) → (⟨S1024x200, .i32⟩ : BufTy).Contents (Elt F)),
   StableHlo.binary main_arg2 main_v6 main_v7 (Host.shli : (⟨S1024x200, .i32⟩ : BufTy).Contents (Elt F) → (⟨S1024x200, .i32⟩ : BufTy).Contents (Elt F) → (⟨S1024x200, .i32⟩ : BufTy).Contents (Elt F)),
   StableHlo.binary main_v5 main_v7 main_v8 (ori : (⟨S1024x200, .i32⟩ : BufTy).Contents (Elt F) → (⟨S1024x200, .i32⟩ : BufTy).Contents (Elt F) → (⟨S1024x200, .i32⟩ : BufTy).Contents (Elt F)),
   StableHlo.reshape main_v8 main_v9 (rfl : (.i32 : EltTy) = .i32) shapeCasts_S1024x200_S204800,
   StableHlo.unary main_arg7 main_v10 ((truncf .bf16 · bitsLt_bf16_f32) : (⟨S512x128, .f32⟩ : BufTy).Contents (Elt F) → (⟨S512x128, .bf16⟩ : BufTy).Contents (Elt F)),
   StableHlo.nullary main_cst (constant S_ .bf16 0x0000#16),
   StableHlo.unary main_cst main_v11 (broadcastInDim S128x128 ![] bcast_S_S128x128 : (⟨S_, .bf16⟩ : BufTy).Contents (Elt F) → (⟨S128x128, .bf16⟩ : BufTy).Contents (Elt F)),
   StableHlo.unary main_arg6 main_v12 ((truncf .bf16 · bitsLt_bf16_f32) : (⟨S120x128, .f32⟩ : BufTy).Contents (Elt F) → (⟨S120x128, .bf16⟩ : BufTy).Contents (Elt F)),
   StableHlo.nullary main_c_1 (constantI S_ 32 0#32),
   StableHlo.unary main_c_1 main_v13 (broadcastInDim S1 ![] bcast_S_S1 : (⟨S_, .i32⟩ : BufTy).Contents (Elt F) → (⟨S1, .i32⟩ : BufTy).Contents (Elt F)),
   StableHlo.ternary main_v11 main_v13 main_v12 main_v14 ((fun x i u => Host.scatter scatter_S128x128_S1_S120x128_01_n_0_0 (fun _ b => b) x i u) : (⟨S128x128, .bf16⟩ : BufTy).Contents (Elt F) → (⟨S1, .i32⟩ : BufTy).Contents (Elt F) → (⟨S120x128, .bf16⟩ : BufTy).Contents (Elt F) → (⟨S128x128, .bf16⟩ : BufTy).Contents (Elt F)),
   StableHlo.reshape main_v9 main_v15 (rfl : (.i32 : EltTy) = .i32) shapeCasts_S204800_S400x1x512,
   StableHlo.reshape main_arg8 main_v16 (rfl : (.f32 : EltTy) = .f32) shapeCasts_S128_S1x128,
   StableHlo.reshape main_arg9 main_v17 (rfl : (.f32 : EltTy) = .f32) shapeCasts_S128_S1x128]

/-- The result in its three dimensions. -/
abbrev ops3 : List (HloOp τ sig (Elt F)) :=
  [StableHlo.reshape main_v18 main_v19 (rfl : (.f32 : EltTy) = .f32) shapeCasts_S204800x128_S1024x200x128]

/-! ## The arrays along @main -/

/-- A TensorCore array as its device names it. -/
abbrev dr (b : Ref sig .tc) : DevRef τ sig := Proc.devRef .tc b

variable (m : (ℓ : Loc nD τ sig) → Buf (Elt F) ℓ)

def val1 (d : Dev nD) : Valuation τ sig (Elt F) := after ops1 (launchContents m d)

/-- The word ids, the word table and the output's first contents, as the SparseCore call finds them. -/
abbrev ids (d : Dev nD) : S1x204800.Idx → BitVec 32 := val1 m d (dr main_v1)
abbrev tab (d : Dev nD) : S100000x128.Idx → F .f32 := val1 m d (dr main_arg4)
abbrev out₀ (d : Dev nD) : S204800x128.Idx → F .f32 := val1 m d (dr main_v2)

def val2 (d : Dev nD) : Valuation τ sig (Elt F) := Function.update (val1 m d) (dr main_v2) (G (F := F) (ids m d) (tab m d))
def val3 (d : Dev nD) : Valuation τ sig (Elt F) := after ops2 (val2 m d)
/-- The same, by the TensorCore's names. -/
abbrev arrs3 (d : Dev nD) (b : Ref sig .tc) : Buf (Elt F) ((d.tc : Thread nD τ).loc b) := val3 m d (dr b)
def val4 (d : Dev nD) : Valuation τ sig (Elt F) := Function.update (val3 m d) (dr main_v18) (Region.denseAt (arrs3 m) d)
abbrev arrs4 (d : Dev nD) (b : Ref sig .tc) : Buf (Elt F) ((d.tc : Thread nD τ).loc b) := val4 m d (dr b)
def val5 (d : Dev nD) : Valuation τ sig (Elt F) := after ops3 (val4 m d)

theorem dr_ne {a b : Ref sig .tc} (h : a ≠ b) : dr a ≠ dr b := fun e => h (Proc.devRef_injective _ e)

theorem arrs4_out (d : Dev nD) : arrs4 m d main_v18 = Region.denseAt (arrs3 m) d := Function.update_self _ _ _
theorem arrs4_ne (d : Dev nD) (b : Ref sig .tc) (h : b ≠ main_v18) : arrs4 m d b = arrs3 m d b := Function.update_of_ne (dr_ne h) _ _

/-! ## An array no step writes -/

/-- The arrays that some step of @main writes. -/
abbrev written : List (Ref sig .tc) := [main_v0, main_v1, main_v2, main_c, main_v3, main_v4, main_v5, main_c_0, main_v6, main_v7, main_v8, main_v9, main_v10, main_cst,
  main_v11, main_v12, main_c_1, main_v13, main_v14, main_v15, main_v16, main_v17, main_v18, main_v19]

theorem ne_of_unwritten {r w : Ref sig .tc} (h : r ∉ written) (hw : w ∈ written) : r ≠ w := fun e => h (e ▸ hw)

theorem val1_unwritten (d : Dev nD) (r : Ref sig .tc) (h : r ∉ written) : val1 m d (dr r) = m ((d.tc : Thread nD τ).loc r) :=
  after_unwritten [main_v0, main_v1] rfl (fun h' => h (by revert h'; simp only [List.mem_cons]; tauto)) _

theorem val2_unwritten (d : Dev nD) (r : Ref sig .tc) (h : r ∉ written) : val2 m d (dr r) = m ((d.tc : Thread nD τ).loc r) :=
  (Function.update_of_ne (dr_ne (ne_of_unwritten h (by decide))) _ _).trans (val1_unwritten m d r h)

theorem val3_unwritten (d : Dev nD) (r : Ref sig .tc) (h : r ∉ written) : val3 m d (dr r) = m ((d.tc : Thread nD τ).loc r) :=
  (after_unwritten [main_c, main_v3, main_v4, main_v5, main_c_0, main_v6, main_v7, main_v8, main_v9, main_v10, main_cst,
    main_v11, main_v12, main_c_1, main_v13, main_v14, main_v15, main_v16, main_v17] rfl
    (fun h' => h (by revert h'; simp only [List.mem_cons]; tauto)) _).trans (val2_unwritten m d r h)

theorem val5_unwritten (d : Dev nD) (r : Ref sig .tc) (h : r ∉ written) : val5 m d (dr r) = m ((d.tc : Thread nD τ).loc r) :=
  (after_unwritten [main_v19] rfl (fun h' => h (by revert h'; simp only [List.mem_cons]; tauto)) _).trans
    ((Function.update_of_ne (dr_ne (ne_of_unwritten h (by decide))) _ _).trans (val3_unwritten m d r h))

/-! ## The result as a function of the arguments -/

/-- The three small ids of a token in one word: the position in the low nine bits, the age in the next seven, the segment above. -/
def packed (age seg posi : Vec F S1024x200 .i32) : Vec F S1024x200 .i32 :=
  ori (ori posi (Host.shli age (broadcastInDim S1024x200 ![] bcast_S_S1024x200 (constantI S_ 32 9#32))))
    (Host.shli seg (broadcastInDim S1024x200 ![] bcast_S_S1024x200 (constantI S_ 32 16#32)))

/-- The age table, its 120 rows over eight rows of zeros. -/
def ageTab (age : Vec F S120x128 .f32) : Vec F S128x128 .bf16 :=
  Host.scatter scatter_S128x128_S1_S120x128_01_n_0_0 (fun _ b => b)
    (broadcastInDim S128x128 ![] bcast_S_S128x128 (constant S_ .bf16 0x0000#16) : Vec F S128x128 .bf16)
    (broadcastInDim S1 ![] bcast_S_S1 (constantI S_ 32 0#32) : Vec F S1 .i32) (truncf .bf16 age bitsLt_bf16_f32)

def result (a0 a1 a2 a3 : Vec F S1024x200 .i32) (a4 : Vec F S100000x128 .f32) (a5 : Vec F S2x128 .f32) (a6 : Vec F S120x128 .f32)
    (a7 : Vec F S512x128 .f32) (a8 a9 : Vec F S128 .f32) : Vec F S1024x200x128 .f32 :=
  shapeCast S1024x200x128
    (Region.dense (F := F) (shapeCast S400x1x512 (shapeCast S204800 (packed a1 a2 a3) shapeCasts_S1024x200_S204800) shapeCasts_S204800_S400x1x512)
      (G (F := F) (shapeCast S1x204800 (shapeCast S204800 a0 shapeCasts_S1024x200_S204800) shapeCasts_S204800_S1x204800) a4)
      (truncf .bf16 a7 bitsLt_bf16_f32) (ageTab a6) a5 (shapeCast S1x128 a8 shapeCasts_S128_S1x128) (shapeCast S1x128 a9 shapeCasts_S128_S1x128))
    shapeCasts_S204800x128_S1024x200x128

theorem ids_eq (d : Dev nD) : ids m d = shapeCast S1x204800 (shapeCast S204800 (m ((d.tc : Thread nD τ).loc main_arg0)) shapeCasts_S1024x200_S204800) shapeCasts_S204800_S1x204800 := by
  show after ops1 (launchContents m d) (dr main_v1) = _
  after_results
  rfl

theorem val5_out (d : Dev nD) : val5 m d (dr main_v19)
    = result (F := F) (m ((d.tc : Thread nD τ).loc main_arg0)) (m ((d.tc : Thread nD τ).loc main_arg1)) (m ((d.tc : Thread nD τ).loc main_arg2))
        (m ((d.tc : Thread nD τ).loc main_arg3)) (m ((d.tc : Thread nD τ).loc main_arg4)) (m ((d.tc : Thread nD τ).loc main_arg5))
        (m ((d.tc : Thread nD τ).loc main_arg6)) (m ((d.tc : Thread nD τ).loc main_arg7)) (m ((d.tc : Thread nD τ).loc main_arg8))
        (m ((d.tc : Thread nD τ).loc main_arg9)) := by
  have e4 : tab m d = m ((d.tc : Thread nD τ).loc main_arg4) := val1_unwritten m d main_arg4 (by decide)
  have h15 : arrs3 m d main_v15 = shapeCast S400x1x512 (shapeCast S204800 (packed (F := F) (val2 m d (dr main_arg1)) (val2 m d (dr main_arg2)) (val2 m d (dr main_arg3))) shapeCasts_S1024x200_S204800) shapeCasts_S204800_S400x1x512 := by
    show after ops2 (val2 m d) (dr main_v15) = _
    after_results
    rfl
  have h2 : arrs3 m d main_v2 = G (F := F) (ids m d) (tab m d) := by
    refine (after_unwritten [main_c, main_v3, main_v4, main_v5, main_c_0, main_v6, main_v7, main_v8, main_v9, main_v10, main_cst,
      main_v11, main_v12, main_c_1, main_v13, main_v14, main_v15, main_v16, main_v17] rfl (by decide) _).trans (Function.update_self _ _ _)
  have h10 : arrs3 m d main_v10 = truncf .bf16 (val2 m d (dr main_arg7) : Vec F S512x128 .f32) bitsLt_bf16_f32 := by
    show after ops2 (val2 m d) (dr main_v10) = _
    after_results
  have h14 : arrs3 m d main_v14 = ageTab (F := F) (val2 m d (dr main_arg6)) := by
    show after ops2 (val2 m d) (dr main_v14) = _
    after_results
    rfl
  have h16 : arrs3 m d main_v16 = shapeCast S1x128 (val2 m d (dr main_arg8) : Vec F S128 .f32) shapeCasts_S128_S1x128 := by
    show after ops2 (val2 m d) (dr main_v16) = _
    after_results
    rfl
  have h17 : arrs3 m d main_v17 = shapeCast S1x128 (val2 m d (dr main_arg9) : Vec F S128 .f32) shapeCasts_S128_S1x128 := by
    show after ops2 (val2 m d) (dr main_v17) = _
    after_results
    rfl
  have h5 : arrs3 m d main_arg5 = m ((d.tc : Thread nD τ).loc main_arg5) := val3_unwritten m d main_arg5 (by decide)
  have h19 : val5 m d (dr main_v19) = shapeCast S1024x200x128 (val4 m d (dr main_v18) : Vec F S204800x128 .f32) shapeCasts_S204800x128_S1024x200x128 := by
    show after ops3 (val4 m d) (dr main_v19) = _
    after_results
    rfl
  rw [h19]
  refine congrArg (fun z : Vec F S204800x128 .f32 => shapeCast S1024x200x128 z shapeCasts_S204800x128_S1024x200x128) ?_
  refine (arrs4_out m d).trans ?_
  show Region.dense (F := F) (arrs3 m d main_v15) (arrs3 m d main_v2) (arrs3 m d main_v10) (arrs3 m d main_v14) (arrs3 m d main_arg5) (arrs3 m d main_v16) (arrs3 m d main_v17) = _
  rw [h15, h2, h10, h14, h16, h17, h5, e4, ids_eq, val2_unwritten m d main_arg1 (by decide), val2_unwritten m d main_arg2 (by decide),
    val2_unwritten m d main_arg3 (by decide), val2_unwritten m d main_arg6 (by decide), val2_unwritten m d main_arg7 (by decide),
    val2_unwritten m d main_arg8 (by decide), val2_unwritten m d main_arg9 (by decide)]

end Cert.Proof.Main

end
-- ==== Proof.Main.lean ====
/-
  The whole program's run: @main on the TensorCore, with the SparseCore call and the TensorCore call each at its value,
  and the launch of all the threads. At the end every array of the TensorCore that outlives its calls holds `val5`.
-/
module

public import proofs.«01_k».proof.Proof.HostVals

@[expose] public section

noncomputable section

namespace Cert.Proof.Main

open Cert.KernelIdeal Cert.KernelIdeal.Gen Cert.Proof.Setup Cert.Proof.Slots Cert.Proof.Launch
open Idealize.ShloMosaic Idealize.ShloMosaic.StableHlo Idealize.ShloMosaic.Shape
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The pipeline's ghost state -/

abbrev adm : (p : Fin 1) → (pcfgs (F := F) p).Adm := fun p => (cfgs p).toPCfg_adm

abbrev pins : (p : Fin 1) → Pipeline.Cfg sig Λ₀ := Pipeline.pin (pcfgs (F := F)) adm

theorem pins_inj : Function.Injective (Pipeline.cellOf (nD := nD) (τ := τ) (pins (F := F))) := cellOf_inj

/-- What the launch deals a TensorCore for its region. -/
abbrev ghost (d : Dev nD) : sProp 𝕄 := iprop(Pipeline.cellsGhost (pins (F := F)) EP 0 d ∗ Pipeline.toksInit (pins (F := F)) EP 0 d)

def u₀ : UU := (initOf (K (F := F)).hsCells (K (F := F)).hsToks,
  (initOf (Pipeline.cells (pins (F := F)) pins_inj) (Pipeline.launchToks (pins (F := F)) pins_inj), (1 : Counters)))

abbrev pay : (K (F := F)).Pay (nD := nD) (Val := Elt F) (Name := ℕ) (U := UU) := P (ids m) (tab m) (out₀ m)

theorem hu₀ : (ownU (u₀ (F := F)) : sProp 𝕄)
    ⊢ |={Set.univ}=> iprop(BI.own (EH (initOf (K (F := F)).hsCells (K (F := F)).hsToks)) ∗ (bigSep Finset.univ (ghost (F := F)))
        ∗ bigSep Finset.univ fun thr : Thread nD τ => bigSep Finset.univ fun q : Fin 1 => (pay m).x q thr) := by
  unfold u₀
  iintro Hu
  ihave H := (ownU_split (F := F) _ _) $$ Hu
  icases H with ⟨HH, HP⟩
  imod (Pipeline.fund_ghost (pins (F := F)) (EP (F := F)) pins_inj) $$ HP with ⟨Hg, Ht⟩
  imodintro
  isplitl [HH]; · iexact HH
  isplitl [Hg Ht]
  · rw [show (bigSep Finset.univ (ghost (F := F)) : sProp 𝕄)
        = iprop((bigSep Finset.univ fun c : Dev nD => bigSep Finset.univ fun p => Pipeline.cellsGhost (pins (F := F)) EP p c)
          ∗ (bigSep Finset.univ fun c : Dev nD => bigSep Finset.univ fun p => (Pipeline.toksInit (pins (F := F)) EP p c : sProp 𝕄))) from by
      rw [← bigSep_sep']
      exact bigSep_congr fun c _ => by rw [bigSep_univ_of_subsingleton (0 : Fin 1), bigSep_univ_of_subsingleton (0 : Fin 1)]]
    isplitl [Hg]; · iexact Hg
    iexact Ht
  rw [show (bigSep Finset.univ fun thr : Thread nD τ => bigSep Finset.univ fun q : Fin 1 => (pay (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## The TensorCore's arrays -/

/-- The arrays that outlive the calls. -/
def arrays : Finset (DevRef τ sig) := (tcRefs τ sig).filter fun b => ¬ b.isScoped

theorem held_arrays (d : Dev nD) (W : Valuation τ sig (Elt F)) :
    (unscopedBufs d (fun b => W (dr b)) : sProp 𝕄) = held (d.tc : Thread nD τ) arrays W := by
  unfold unscopedBufs held arrays tcRefs
  rw [Finset.filter_map, bigSep_map]; rfl

theorem held_launch (d : Dev nD) :
    (unscopedBufs d (fun b => m ((SparseCore.T d).loc b)) : sProp 𝕄) = held (d.tc : Thread nD τ) arrays (launchContents m d) :=
  held_arrays d (launchContents m d)

theorem mem_arrays (b : Ref sig .tc) (h : b.isScoped = false) : dr b ∈ arrays :=
  Finset.mem_filter.mpr ⟨devRef_mem_tcRefs b, by show ¬ (b.isScoped = true); rw [h]; exact Bool.false_ne_true⟩

/-- An array operation touches arrays that outlive the calls only. -/
theorem bufs_arrays {op : HloOp τ sig (Elt F)} (h : op.bufs ⊆ tcRefs τ sig) : op.bufs ⊆ arrays := fun b hb =>
  Finset.mem_filter.mpr ⟨h hb, by rw [op.no_scoped b hb]; exact Bool.false_ne_true⟩

/-- The three arrays the SparseCore call works on. -/
def scArrays : Finset (DevRef τ sig) := {dr main_arg4, dr main_v1, dr main_v2}

theorem scArrays_sub : scArrays ⊆ arrays := by
  intro b hb
  simp only [scArrays, Finset.mem_insert, Finset.mem_singleton] at hb
  rcases hb with rfl | rfl | rfl <;> exact mem_arrays _ rfl

theorem held_sc (d : Dev nD) (W : Valuation τ sig (Elt F)) :
    (held (d.tc : Thread nD τ) scArrays W : sProp 𝕄)
      = iprop((tabLoc d ↦{fullShare} W (dr main_arg4)) ∗ (idxLoc d ↦{fullShare} W (dr main_v1)) ∗ (outLoc d ↦{fullShare} W (dr main_v2))) := by
  unfold held scArrays
  rw [SparseCore.bigSep_insert' (by decide), SparseCore.bigSep_insert' (by decide), bigSep_singleton]

/-- The other arrays are the same after the SparseCore call as before it. -/
theorem held_rest (d : Dev nD) : (held (d.tc : Thread nD τ) (arrays \ scArrays) (val1 m d) : sProp 𝕄) = held (d.tc : Thread nD τ) (arrays \ scArrays) (val2 m d) :=
  held_congr _ fun b hb => by
    refine (Function.update_of_ne (fun e => (Finset.mem_sdiff.mp hb).2 ?_) _ _).symm
    rw [e]; exact Finset.mem_insert_of_mem (Finset.mem_insert_of_mem (Finset.mem_singleton_self _))

/-- The arrays after the SparseCore call, put back together. -/
theorem held_after (d : Dev nD) :
    iprop(((tabLoc d ↦{fullShare} tab m d) ∗ (idxLoc d ↦{fullShare} ids m d) ∗ (outLoc d ↦{fullShare} G (F := F) (ids m d) (tab m d)))
        ∗ held (d.tc : Thread nD τ) (arrays \ scArrays) (val2 m d))
      = (held (d.tc : Thread nD τ) arrays (val2 m d) : sProp 𝕄) := by
  rw [held_sub_split _ scArrays_sub (val2 m d), held_sc]
  rw [show val2 m d (dr main_arg4) = tab m d from Function.update_of_ne (dr_ne (by decide)) _ _,
    show val2 m d (dr main_v1) = ids m d from Function.update_of_ne (dr_ne (by decide)) _ _,
    show val2 m d (dr main_v2) = G (F := F) (ids m d) (tab m d) from Function.update_self _ _ _]

/-! ## @main -/

theorem after1 (d : Dev nD) : after ops1 (launchContents m d) = val1 m d := rfl
theorem after2 (d : Dev nD) : after ops2 (val2 m d) = val3 m d := rfl
theorem after3 (d : Dev nD) : after ops3 (val4 m d) = val5 m d := rfl

attribute [local irreducible] arrays scArrays val1 val2 val3 val4 val5

abbrev FIN (d : Dev nD) : sProp 𝕄 := held (d.tc : Thread nD τ) arrays (val5 m d)

theorem ops1_sub : ∀ op ∈ (ops1 : List (HloOp τ sig (Elt F))), op.bufs ⊆ arrays := fun op h =>
  bufs_arrays (List.forall_iff_forall_mem.1 (show (ops1 : List (HloOp τ sig (Elt F))).Forall fun op => op.bufs ⊆ tcRefs τ sig from
    ⟨reshape_bufs_sub .., reshape_bufs_sub ..⟩) op h)
theorem ops2_sub : ∀ op ∈ (ops2 : List (HloOp τ sig (Elt F))), op.bufs ⊆ arrays := fun op h =>
  bufs_arrays (List.forall_iff_forall_mem.1 (show (ops2 : List (HloOp τ sig (Elt F))).Forall fun op => op.bufs ⊆ tcRefs τ sig from
    ⟨nullary_bufs_sub .., unary_bufs_sub .., binary_bufs_sub .., binary_bufs_sub .., nullary_bufs_sub .., unary_bufs_sub .., binary_bufs_sub ..,
      binary_bufs_sub .., reshape_bufs_sub .., unary_bufs_sub .., nullary_bufs_sub .., unary_bufs_sub .., unary_bufs_sub .., nullary_bufs_sub ..,
      unary_bufs_sub .., ternary_bufs_sub .., reshape_bufs_sub .., reshape_bufs_sub .., reshape_bufs_sub ..⟩) op h)
theorem ops3_sub : ∀ op ∈ (ops3 : List (HloOp τ sig (Elt F))), op.bufs ⊆ arrays := fun op h =>
  bufs_arrays (List.forall_iff_forall_mem.1 (show (ops3 : List (HloOp τ sig (Elt F))).Forall fun op => op.bufs ⊆ tcRefs τ sig from
    reshape_bufs_sub ..) op h)

theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h

theorem main_split (d : Dev nD) : main (F := F) d
    = (seq ops1 >>= fun _ => (sc (F := F)).run d 0 >>= fun _ => seq ops2 >>= fun _ =>
        Prog.lift (.customCall (SparseCore.inner (Pipeline.entry 0)) ()) >>= fun _ => seq ops3 >>= fun _ => pure ⟨⟩) := rfl

/-- The TensorCore call's region, at the arrays it finds. -/
abbrev region : Pipeline.RegionSeg (pcfgs (F := F)) adm (Region.pdats (arrs3 m) adm) none defs₀ 𝒱₀ (K (F := F)).L (K (F := F)).lev 0 :=
  Region.reg adm (arrs3 m) (arrs4 m) (arrs4_out m) (arrs4_ne m)

/-- The TensorCore call, as a program of its own. -/
def tcProg : Prog (TpuEff nD τ sig (Elt F) (ΛP (F := F)) .tc) PUnit := .op (.customCall (Pipeline.entry 0) ()) .ret

theorem tcProg_lift : (Prog.lift (.customCall (SparseCore.inner (Pipeline.entry 0)) ()) : Prog (TpuEff nD τ sig (Elt F) (SparseCore.Sig (ΛP (F := F)) 1) .tc) PUnit)
    = SparseCore.liftProg tcProg := rfl

/-- The TensorCore call: from the arrays at `val3` to the arrays at `val4`. -/
theorem tc_call [∀ e, Nonempty (Elt F e)] (d : Dev nD) (Φ : PUnit → sProp 𝕄) :
    iprop((iprop(boundary (d.tc : Thread nD τ) ∗ held (d.tc : Thread nD τ) arrays (val4 m d) ∗ Region.owesLow d) -∗ Φ ⟨⟩)
        ∗ boundary (d.tc : Thread nD τ) ∗ (held (d.tc : Thread nD τ) arrays (val3 m d) ∗ Region.owesLow d)
        ∗ levAts (K (F := F)).L (K (F := F)).lev ∗ ghost (F := F) d)
      ⊢ wp frame (wpE ((K (F := F)).defs (D (F := F))) 𝒱 (T d) none) Set.univ
          (Prog.lift (.customCall (SparseCore.inner (Pipeline.entry 0)) ())) Φ := by
  rw [tcProg_lift, ← held_arrays, ← held_arrays]
  have h : iprop((iprop(boundary (d.tc : Thread nD τ) ∗ (unscopedBufs d (fun b => val4 m d (dr b)) ∗ Region.owesLow d))
          -∗ wp frame (wpE (D (F := F)) 𝒱 (d.tc : Thread nD τ) none) Set.univ (.ret ⟨⟩) Φ)
        ∗ boundary (d.tc : Thread nD τ) ∗ (unscopedBufs d (fun b => val3 m d (dr b)) ∗ Region.owesLow d)
        ∗ levAts (K (F := F)).L (K (F := F)).lev ∗ ghost (F := F) d)
      ⊢ wp frame (wpE (D (F := F)) 𝒱 (d.tc : Thread nD τ) none) Set.univ tcProg Φ := Pipeline.RegionSeg.wp (pcfgs (F := F)) adm (Region.pdats (arrs3 m) adm) none pins_inj (EP (F := F)) defs₀ 𝒱₀ (K (F := F)).L (K (F := F)).lev
    (region m) d none (fun u hu => nomatch hu) .ret Φ
  iintro ⟨Hk, Hb, H, Hl, Hg, Ht⟩
  iapply ((K (F := F)).wp_liftProg (D (F := F)) 𝒱 (SparseCore.T d) Set.univ none tcProg Φ)
  iapply h
  isplitl [Hk]
  · iintro ⟨Hb, H⟩
    rw [wp_ret]
    imodintro
    iapply Hk
    isplitl [Hb]; · iexact Hb
    iexact H
  isplitl [Hb]; · iexact Hb
  isplitl [H]; · iexact H
  isplitl [Hl]; · iexact Hl
  isplitl [Hg]; · iexact Hg
  iexact Ht

/-- @main's end: what each device's TensorCore hands back. -/
abbrev ends (d : Dev nD) : PUnit → sProp 𝕄 := fun _ => iprop((K (F := F)).tcSt EH d 1 ∗ FIN m d ∗ boundary (SparseCore.T d) ∗ (K (F := F)).tcSems0 d)

/-- @main from the TensorCore call on. -/
theorem main_tail [∀ e, Nonempty (Elt F e)] (d : Dev nD) :
    iprop((K (F := F)).tcSt EH d 1 ∗ boundary (d.tc : Thread nD τ) ∗ held (d.tc : Thread nD τ) arrays (val3 m d) ∗ (K (F := F)).tcSems0 d
        ∗ levAts (K (F := F)).L (K (F := F)).lev ∗ ghost (F := F) d)
      ⊢ wp frame (wpE ((K (F := F)).defs (D (F := F))) 𝒱 (SparseCore.T d) none) Set.univ
          (Prog.lift (.customCall (SparseCore.inner (Pipeline.entry 0)) ()) >>= fun _ => seq ops3 >>= fun _ => pure ⟨⟩) (ends m d) := by
  unfold ends
  rw [wp_bind]
  unfold SparseCore.Cfg.tcSt
  rw [show (K (F := F)).Otc d 1 = 0 from (K (F := F)).Otc_end d le_rfl]
  iintro ⟨⟨⟨%W, %hW, HO⟩, Hst⟩, Hb, Hh, Hts, Hlev, Hg⟩
  iapply (tc_call m d)
  isplitl [Hst Hts]
  · iintro ⟨Hb, Hh, ⟨%W', %hW', HO⟩⟩
    iapply (wp_seq 𝒱 none Set.univ d arrays _ ops3 ops3_sub ops3_fresh (val4 m d)) $$ [Hb Hh]
    · isplitl [Hb]; · iexact Hb
      iexact Hh
    iintro ⟨Hb, Hh⟩
    ihave Hh := (Entails.of_eq (congrArg (fun V => held (d.tc : Thread nD τ) arrays V) (after3 m d))) $$ Hh
    iapply (Entails.of_eq (wp_pure _ _ _ _ _).symm)
    imodintro
    isplitl [HO Hst]
    · isplitl [HO]
      · iexists W'
        isplitr; · ipureintro; exact hW'
        iexact HO
      iexact Hst
    isplitl [Hh]; · iexact Hh
    isplitl [Hb]; · iexact Hb
    iexact Hts
  isplitl [Hb]; · iexact Hb
  isplitl [Hh HO]
  · isplitl [Hh]; · iexact Hh
    iexists W
    isplitr; · ipureintro; exact hW
    iexact HO
  isplitl [Hlev]; · iexact Hlev
  iexact Hg

/-- @main from the SparseCore call on. -/
theorem main_calls [∀ e, Nonempty (Elt F e)] (κ : GSem nD τ sig → ℕ) (d : Dev nD) :
    iprop((K (F := F)).ctx EH (pay m) κ ∗ (K (F := F)).tcSt EH d 0 ∗ boundary (d.tc : Thread nD τ) ∗ held (d.tc : Thread nD τ) arrays (val1 m d)
        ∗ (K (F := F)).tcSems0 d ∗ ghost (F := F) d)
      ⊢ wp frame (wpE ((K (F := F)).defs (D (F := F))) 𝒱 (SparseCore.T d) none) Set.univ
          ((sc (F := F)).run d 0 >>= fun _ => seq ops2 >>= fun _ =>
            Prog.lift (.customCall (SparseCore.inner (Pipeline.entry 0)) ()) >>= fun _ => seq ops3 >>= fun _ => pure ⟨⟩) (ends m d) := by
  rw [wp_bind, held_sub_split _ scArrays_sub (val1 m d), held_sc, held_rest]
  iintro ⟨#Hctx, Hst, Hb, ⟨⟨H4, H1, H2⟩, Hr⟩, Hts, Hg⟩
  ihave #Hlev := (SparseCore.Cfg.ctx_levAts κ) $$ Hctx
  ihave Hd := (deal (ids m) (tab m) d (out₀ m d)) $$ [H4 H1 H2]
  · isplitl [H4]; · iexact H4
    isplitl [H1]; · iexact H1
    iexact H2
  icases Hd with ⟨Hrest, Hpool⟩
  iapply ((K (F := F)).wp_run (D (F := F)) 𝒱 (EH := EH) (P := pay m) κ d 0)
  isplitr; · iexact Hctx
  isplitl [Hst]; · iexact Hst
  isplitl [Hpool]
  · iapply (Entails.of_eq (st_eq (ids m) (tab m) (out₀ m) d).symm); iexact Hpool
  iintro ⟨Hst, Hdn⟩
  ihave Hpool := (Entails.of_eq (dn_eq (ids m) (tab m) (out₀ m) d)) $$ Hdn
  ihave Hc := (collect (ids m) (tab m) d (G (ids m d) (tab m d))) $$ [Hrest Hpool]
  · isplitl [Hrest]; · iexact Hrest
    iexact Hpool
  icases Hc with ⟨H4, H1, H2⟩
  ihave Hh := (Entails.of_eq (held_after m d)) $$ [H4 H1 H2 Hr]
  · isplitl [H4 H1 H2]
    · isplitl [H4]; · iexact H4
      isplitl [H1]; · iexact H1
      iexact H2
    iexact Hr
  iapply (wp_seq 𝒱 none Set.univ d arrays _ ops2 ops2_sub ops2_fresh (val2 m d)) $$ [Hb Hh]
  · isplitl [Hb]; · iexact Hb
    iexact Hh
  iintro ⟨Hb, Hh⟩
  ihave Hh := (Entails.of_eq (congrArg (fun V => held (d.tc : Thread nD τ) arrays V) (after2 m d))) $$ Hh
  iapply (main_tail m d)
  isplitl [Hst]; · iexact Hst
  isplitl [Hb]; · iexact Hb
  isplitl [Hh]; · iexact Hh
  isplitl [Hts]; · iexact Hts
  isplitr; · iexact Hlev
  iexact Hg

/-- @main on device `d`'s TensorCore, from the arrays at launch to the arrays at `val5`. -/
theorem hmain [∀ e, Nonempty (Elt F e)] (κ : GSem nD τ sig → ℕ) (d : Dev nD) :
    iprop((K (F := F)).ctx EH (pay m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_split, held_launch]
  iintro ⟨#Hctx, Hst, ⟨Hb, Hh, Hts, -⟩, Hg⟩
  iapply (wp_seq 𝒱 none Set.univ d arrays _ ops1 ops1_sub ops1_fresh (launchContents m d)) $$ [Hb Hh]
  · isplitl [Hb]; · iexact Hb
    iexact Hh
  iintro ⟨Hb, Hh⟩
  ihave Hh := (Entails.of_eq (congrArg (fun V => held (d.tc : Thread nD τ) arrays V) (after1 m d))) $$ Hh
  iapply (main_calls m κ d)
  isplitr; · iexact Hctx
  isplitl [Hst]; · iexact Hst
  isplitl [Hb]; · iexact Hb
  isplitl [Hh]; · iexact Hh
  isplitl [Hts]; · iexact Hts
  iexact Hg

/-! ## The run -/

/-- The final state's memory: every array that outlives the calls at `val5`. -/
def fq (d : Dev nD) (s' : Phys nD τ sig (Elt F)) : Prop := ∀ b ∈ arrays, s'.mem.mem (d, b) = val5 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) arrays) $$ [HSI H]
  · isplitl [HSI]; · iexact HSI
    iexact H
  ipureintro
  exact h

/-- The arguments end as they were, the result is `result` of them, every counter is back at zero. -/
def QC : PUnit × MemSt nD τ sig (Elt F) → Prop := fun r =>
  (∀ c : Dev nD,
    r.2.mem ((c.tc : Thread nD τ).loc main_v19)
      = result (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9))
  ∧ r.2.sem = fun _ => 0

theorem hQ (s' : Phys nD τ sig (Elt F)) (h : ∀ d, fq m d s') (hz : s'.mem.sem = fun _ => 0) : QC m (⟨⟩, s'.mem) :=
  ⟨fun c => ⟨(h c _ (mem_arrays main_v19 rfl)).trans (val5_out m c),
    (h c _ (mem_arrays main_arg0 rfl)).trans (val5_unwritten m c main_arg0 (by decide)),
    (h c _ (mem_arrays main_arg1 rfl)).trans (val5_unwritten m c main_arg1 (by decide)),
    (h c _ (mem_arrays main_arg2 rfl)).trans (val5_unwritten m c main_arg2 (by decide)),
    (h c _ (mem_arrays main_arg3 rfl)).trans (val5_unwritten m c main_arg3 (by decide)),
    (h c _ (mem_arrays main_arg4 rfl)).trans (val5_unwritten m c main_arg4 (by decide)),
    (h c _ (mem_arrays main_arg5 rfl)).trans (val5_unwritten m c main_arg5 (by decide)),
    (h c _ (mem_arrays main_arg6 rfl)).trans (val5_unwritten m c main_arg6 (by decide)),
    (h c _ (mem_arrays main_arg7 rfl)).trans (val5_unwritten m c main_arg7 (by decide)),
    (h c _ (mem_arrays main_arg8 rfl)).trans (val5_unwritten m c main_arg8 (by decide)),
    (h c _ (mem_arrays main_arg9 rfl)).trans (val5_unwritten m c main_arg9 (by decide))⟩, hz⟩

/-- The word ids are rows of the word table. -/
def PreOK : Prop := ∀ (d : Dev nD) (j : S1024x200.Idx), (m ((d.tc : Thread nD τ).loc main_arg0) j : BitVec 32).toNat < 100000

theorem ids_ok (h : PreOK m) : ∀ d j, (ids m d j).toNat < 100000 := fun d j => by
  rw [ids_eq]; exact h d _

theorem run_main [∀ e, Nonempty (Elt F e)] (h : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := pay m) (A := ∅) facts v₀
    (fun q hq => match q with | 0 => nomatch hq)
    (fun q _ => match q with | 0 => tileObl (ids m) (tab m) (out₀ m) facts (ids_ok m h))
    (fun q _ => match q with | 0 => SparseCore.Cfg.VecSplit.of_plain (vecSplit (ids m) (tab m) (out₀ m)))
    m ρ main (ghost (F := F)) (FIN m) (u₀ (F := F)) (sep_elim_left.trans (hu₀ m)) (hmain m ρ) (fq m) (hfin m) (QC m) (hQ m)

end Cert.Proof.Main

end
-- ==== Proof.Same.lean ====
/-
  The program read at bit patterns and the program read at the extended reals are one text: the tables of their bodies are
  equal at the instance of bit patterns.
-/
module

public import proofs.«01_k».proof.Defs
public import proofs.«01_k».proof.Proof.Gen.Kernel
public import proofs.«01_k».proof.Proof.Gen.KernelIdeal

@[expose] public section

namespace Cert.Proof.Same

open Idealize.ShloMosaic Idealize.SL.Sem

set_option maxRecDepth 100000 in
/-- The kernels' bodies, one case for each unit and label. -/
theorem bodies_eq : Cert.Kernel.defs₀ (F := Bits) = Cert.KernelIdeal.defs₀ (F := Bits) := by
  funext p ℓ a
  match p, ℓ, a with
  | .scVector c s, 0, _ => rfl
  | .tc, 1, (t, s) => rfl
  | .tc, 0, _ => rfl
  | .scVector _ _, 1, _ => rfl
  | .scScalar _, 0, _ => rfl
  | .scScalar _, 1, _ => rfl

set_option maxRecDepth 100000 in
theorem defs_eq : Cert.Kernel.defs (F := Bits) = Cert.KernelIdeal.defs (F := Bits) :=
  congrArg (fun z => (Cert.KernelIdeal.sc (F := Bits)).defs (Pipeline.defs Cert.KernelIdeal.pcfgs z)) bodies_eq

end Cert.Proof.Same
-- ==== Proof.Ranges.lean ====
/-
  What the two stated preconditions say of the arguments: every id is a row of its table, and (the second one) the first
  segment row is finite.
-/
module

public import proofs.«01_k».proof.Pre_ids_in_tables
public import proofs.«01_k».proof.Pre_ids_in_tables_seg0_finite
public import Idealize.ShloMosaic.Lib.ReduceAll
public import Idealize.ShloMosaic.Lib.Affine

@[expose] public section

noncomputable section

namespace Cert.Proof.Ranges

open Idealize.ShloMosaic

/-! ## The shape facts the preconditions take -/

theorem facts_in_tables : Cert.Pre_ids_in_tables.Facts where
  bcast_S_S1024x200 := by decide
  reducesTo_S1024x200_S_d0_1 := by decide
  h_S_ := by decide

theorem facts_seg0_finite : Cert.Pre_ids_in_tables_seg0_finite.Facts where
  bcast_S_S1024x200 := by decide
  reducesTo_S1024x200_S_d0_1 := by decide
  h_S_ := by decide
  slices_S2x128_S1x128_0_0 := by decide
  bcast_S_S1x128 := by decide
  reducesTo_S1x128_S_d0_1 := by decide

attribute [local instance] facts_in_tables facts_seg0_finite

/-! ## Words in a range -/

abbrev Ids : Type := (⟨2, ![1024, 200]⟩ : Shape).Idx → BitVec 32

/-- A word at least 0 and below `n`, both read signed, is below `n` read unsigned. -/
theorem lt_of_signed {x n : BitVec 32} (h₀ : (0#32 : BitVec 32).toInt ≤ x.toInt) (h₁ : x.toInt < n.toInt) : x.toNat < n.toNat := by
  have := BitVec.toInt_eq_toNat_cond x
  have := BitVec.toInt_eq_toNat_cond n
  have z : (0#32 : BitVec 32).toInt = 0 := by decide
  have := x.isLt
  have := n.isLt
  split at * <;> split at * <;> omega

/-- `jnp.all((x >= 0) & (x < n))` as it prints: every word is below `n`. -/
theorem all_lt (x : Ids) (n : BitVec 32) (hb : (⟨0, ![]⟩ : Shape).BroadcastsInDim ⟨2, ![1024, 200]⟩ (![] : Fin 0 → Fin 2))
    (hr : (⟨2, ![1024, 200]⟩ : Shape).ReducesTo [0, 1] ⟨0, ![]⟩) (hu : 0 < (⟨0, ![]⟩ : Shape).numel) (j : (⟨0, ![]⟩ : Shape).Idx)
    (e : Host.reduce IntOp.andi (andi (cmpi .sge x (broadcastInDim ⟨2, ![1024, 200]⟩ ![] hb (constantI ⟨0, ![]⟩ 32 0#32)))
      (cmpi .slt x (broadcastInDim ⟨2, ![1024, 200]⟩ ![] hb (constantI ⟨0, ![]⟩ 32 n)))) (constantI ⟨0, ![]⟩ 1 1#1) hr hu j = 1#1)
    (i : (⟨2, ![1024, 200]⟩ : Shape).Idx) : (x i).toNat < n.toNat :=
  have h := IntOp.andi_eq_one.1 (Host.reduce_andi_all _ _ _ _ j e i)
  lt_of_signed (IntOp.cmpi_sge.1 h.1) (IntOp.cmpi_slt.1 h.2)

/-- The ids of every token are rows of their tables: word, age, segment and position ids in this order. -/
structure InTables (a0 a1 a2 a3 : Ids) : Prop where
  word : ∀ i, (a0 i).toNat < 100000
  age : ∀ i, (a1 i).toNat < 120
  seg : ∀ i, (a2 i).toNat < 2
  posi : ∀ i, (a3 i).toNat < 512

variable {F : FTy → Type} [FloatOps F]

theorem in_tables (a0 a1 a2 a3 : Ids) (a4 : FVec F ⟨2, ![100000, 128]⟩ .f32) (a5 : FVec F ⟨2, ![2, 128]⟩ .f32)
    (a6 : FVec F ⟨2, ![120, 128]⟩ .f32) (a7 : FVec F ⟨2, ![512, 128]⟩ .f32) (a8 a9 : FVec F ⟨1, ![128]⟩ .f32)
    (h : Cert.Pre_ids_in_tables.fn (F := F) a0 a1 a2 a3 a4 a5 a6 a7 a8 a9 = fun _ => 1#1) : InTables a0 a1 a2 a3 := by
  have e := congrFun h (fun a => a.elim0)
  obtain ⟨e, e3⟩ := IntOp.andi_eq_one.1 e
  obtain ⟨e, e2⟩ := IntOp.andi_eq_one.1 e
  obtain ⟨e0, e1⟩ := IntOp.andi_eq_one.1 e
  exact ⟨all_lt a0 100000#32 _ _ _ _ e0, all_lt a1 120#32 _ _ _ _ e1, all_lt a2 2#32 _ _ _ _ e2, all_lt a3 512#32 _ _ _ _ e3⟩

/-- The second precondition: the first, and every element of the first segment row is below infinity in absolute value. -/
theorem in_tables_seg0 (a0 a1 a2 a3 : Ids) (a4 : FVec F ⟨2, ![100000, 128]⟩ .f32) (a5 : FVec F ⟨2, ![2, 128]⟩ .f32)
    (a6 : FVec F ⟨2, ![120, 128]⟩ .f32) (a7 : FVec F ⟨2, ![512, 128]⟩ .f32) (a8 a9 : FVec F ⟨1, ![128]⟩ .f32)
    (h : Cert.Pre_ids_in_tables_seg0_finite.fn (F := F) a0 a1 a2 a3 a4 a5 a6 a7 a8 a9 = fun _ => 1#1) :
    InTables a0 a1 a2 a3 ∧ ∀ i : (⟨2, ![1, 128]⟩ : Shape).Idx,
      FloatOps.cmpf .olt (Host.absf (F := F) (φ := .f32) (extractStridedSlice ⟨2, ![1, 128]⟩ ![0, 0] a5 facts_seg0_finite.slices_S2x128_S1x128_0_0) i)
        (FloatOps.ofBits .f32 0x7F800000#32) = 1#1 := by
  have e := congrFun h (fun a => a.elim0)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨⟨all_lt a0 100000#32 _ _ _ _ e0, all_lt a1 120#32 _ _ _ _ e1, all_lt a2 2#32 _ _ _ _ e2, all_lt a3 512#32 _ _ _ _ e3⟩,
    fun i => Host.reduce_andi_all _ _ _ _ _ e4 i⟩

end Cert.Proof.Ranges

end
-- ==== Proof.Frames.lean ====
/-
  The frames: the kernel's, at either reading of its floats, from its one run; the reference's from its run, it having no
  semaphores at all.
-/
module

public import proofs.«01_k».proof.Defs
public import proofs.«01_k».proof.Proof.Gen.Kernel
public import proofs.«01_k».proof.Proof.Main
public import proofs.«01_k».proof.Proof.Same
public import proofs.«01_k».proof.Proof.Ranges
public import proofs.«01_k».proof.Proof.Gen.ReferenceIdeal.Run
public import Idealize.ShloMosaic.Lib.Quiescent

@[expose] public section

noncomputable section

namespace Cert.Proof.Frames

open Idealize.ShloMosaic Idealize.SL.Sem Cert.Proof.Ranges Cert.Proof.Main

attribute [local instance] facts_in_tables facts_seg0_finite

theorem frame_kernel : Cert.quiescent_Kernel := fun m ρ h => by
  have k : θ_run (Cert.KernelIdeal.defs (F := Bits)) (Cert.KernelIdeal.threads (F := Bits)) ⟨m, fun _ => 0, ρ⟩ _ :=
    (θ_run (Cert.KernelIdeal.defs (F := Bits)) _ _).mono
      (fun _ hq => ⟨fun c => (hq.1 c).2, hq.2⟩ : QC (F := Bits) m ≤ fun r => (∀ c : Dev Cert.Kernel.nD, _) ∧ r.2.sem = fun _ => 0)
      (run_main (F := Bits) m ρ fun d j => (in_tables (F := Bits) _ _ _ _ _ _ _ _ _ _ (h d)).word j)
  exact Eq.mpr (congrArg (fun D => θ_run D (Cert.KernelIdeal.threads (F := Bits)) ⟨m, fun _ => 0, ρ⟩ _) Same.defs_eq) k

theorem frame_kernelIdeal : Cert.quiescent_KernelIdeal := fun m ρ h =>
  (θ_run (Cert.KernelIdeal.defs (F := Ideal)) _ _).mono (fun _ hq => ⟨fun c => (hq.1 c).2, hq.2⟩)
    (run_main (F := Ideal) m ρ fun d j => (in_tables (F := Ideal) _ _ _ _ _ _ _ _ _ _ (h d)).word j)

theorem frame_kernelIdeal_seg0 : Cert.quiescent_KernelIdeal_pre_ids_in_tables_seg0_finite := fun m ρ h =>
  (θ_run (Cert.KernelIdeal.defs (F := Ideal)) _ _).mono (fun _ hq => ⟨fun c => (hq.1 c).2, hq.2⟩)
    (run_main (F := Ideal) m ρ fun d j => (in_tables_seg0 (F := Ideal) _ _ _ _ _ _ _ _ _ _ (h d)).1.word j)

theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem frame_reference_seg0 : Cert.quiescent_ReferenceIdeal_pre_ids_in_tables_seg0_finite := fun m ρ _ =>
  frame_reference m ρ trivial

end Cert.Proof.Frames

end
-- ==== Proof.Take.lean ====
/-
  A row taken from a table at an id that is in range: the index as jnp.take makes it, its range test, and the row read.
-/
module

public import Idealize.ShloMosaic.Lib.Pointwise
public import Idealize.ShloMosaic.Lib.Routing.OpsPair
public import Idealize.ShloMosaic.Lib.ReduceAll

@[expose] public section

noncomputable section

namespace Cert.Proof.Take

open Idealize.ShloMosaic

abbrev tableShape (n : Nat) : Shape := ⟨2, ![n, 128]⟩
abbrev idsShape : Shape := ⟨3, ![1024, 200, 1]⟩
abbrev rowsShape : Shape := ⟨3, ![1024, 200, 128]⟩

theorem gather_rows {α : Type} {n : Nat} (hn : n < 2 ^ 31)
    (wf : GatherDims.WF (tableShape n) idsShape rowsShape [2] [0] [] [0] [] 2 ![1, 128])
    (x : (tableShape n).Idx → α) (idx : IVec idsShape 32) (b : Fin 1024) (s : Fin 200) (h : Fin 128) (k : Fin n)
    (hk : (idx (ix3 b s 0)).toNat = k.val) :
    Host.gather { offsetDims := [2], collapsedSliceDims := [0], operandBatchingDims := [], startIndicesBatchingDims := [],
                  startIndexMap := [0], indexVectorDim := 2, sliceSizes := ![1, 128], wf := wf } x idx (ix3 b s h) = x (ix2 k h) := by
  unfold Host.gather
  refine congrArg x (funext fun a => Fin.ext ?_)
  match a with
  | ⟨0, _⟩ =>
    have hi : (idx (ix3 b s 0)).toInt = (k.val : Int) := by
      rw [BitVec.toInt_eq_toNat_of_lt (by have := k.isLt; omega), hk]
    have hx : GatherDims.siIdx (s := tableShape n) (si := idsShape) (t := rowsShape) ⟨[2], [0], [], [], [0], 2, ![1, 128], wf⟩ (ix3 b s h) ⟨0, Nat.one_pos⟩ = ix3 b s 0 := by
      funext a'
      match a' with
      | ⟨0, _⟩ => rfl
      | ⟨1, _⟩ => rfl
      | ⟨2, _⟩ => rfl
    show min (idx (GatherDims.siIdx (s := tableShape n) (si := idsShape) (t := rowsShape) ⟨[2], [0], [], [], [0], 2, ![1, 128], wf⟩ (ix3 b s h) ⟨0, Nat.one_pos⟩)).toInt.toNat (n - 1) + 0 + 0 = k.val
    rw [hx, hi]
    have := k.isLt
    omega
  | ⟨1, _⟩ =>
    show 0 + 0 + h.val = h.val
    omega

end Cert.Proof.Take

end
-- ==== Proof.Norm.lean ====
/-
  The layer norm of one row of 128 extended reals, written the kernel's way (times the reciprocal square root) and the
  reference's way (over the square root). A mean of squares is not negative, so the two agree on every row.
-/
module

public import Idealize.ShloMosaic.Lib.Pointwise

@[expose] public section

noncomputable section

namespace Cert.Proof.Norm

open Idealize.ShloMosaic
open scoped BigOperators

/-- The width of a row and the small number added to a variance, as the programs write them. -/
abbrev width : EReal := Ideal.ofBits .f32 0x43000000#32
abbrev eps : EReal := Ideal.ofBits .f32 0x2B8CBCCC#32

theorem width_eq : width = ((128 : ℝ) : EReal) := by
  simp [width, Ideal.ofBits, Ideal.ieee, -EReal.coe_mul]; norm_num

theorem eps_pos : (0 : EReal) < eps := by
  simp [eps, Ideal.ofBits, Ideal.ieee, -EReal.coe_mul]

variable (e : Fin 128 → EReal)

def mean : EReal := Ideal.div (∑ x, e x) width
def var : EReal := Ideal.div (∑ x, (e x - mean e) * (e x - mean e)) width

/-- One entry of the row's layer norm, by the reciprocal square root. -/
def byRsqrt (g b : EReal) (h : Fin 128) : EReal := (e h - mean e) * Ideal.rsqrt (var e + eps) * g + b
/-- One entry of the row's layer norm, by the square root. -/
def bySqrt (g b : EReal) (h : Fin 128) : EReal := Ideal.div (e h - mean e) (Ideal.sqrt (var e + eps)) * g + b

theorem sq_nonneg (x : EReal) : 0 ≤ x * x := by
  induction x with
  | bot => simp
  | top => simp
  | coe r => exact_mod_cast mul_self_nonneg r

theorem var_nonneg : 0 ≤ var e := by
  unfold var Ideal.div
  rw [width_eq, if_neg (by norm_num)]
  refine mul_nonneg (Finset.sum_nonneg fun x _ => sq_nonneg _) ?_
  rw [← EReal.coe_inv]
  exact_mod_cast (by norm_num : (0 : ℝ) ≤ (128 : ℝ)⁻¹)

theorem mul_rsqrt (x v : EReal) (hv : 0 < v) : x * Ideal.rsqrt v = Ideal.div x (Ideal.sqrt v) := by
  induction v with
  | bot => exact absurd hv (by simp)
  | top =>
    show x * 0 = if (⊤ : EReal) = 0 then (if 0 < x then ⊤ else ⊥) else x * (⊤ : EReal)⁻¹
    rw [if_neg EReal.top_ne_zero, EReal.inv_top]
  | coe r =>
    have hr : 0 < r := by exact_mod_cast hv
    have hs : ((Real.sqrt r : ℝ) : EReal) ≠ 0 := by exact_mod_cast (Real.sqrt_pos.2 hr).ne'
    have e1 : Ideal.rsqrt (r : EReal) = (((Real.sqrt r)⁻¹ : ℝ) : EReal) := by
      show (if r < 0 then ⊥ else if r = 0 then ⊤ else (((Real.sqrt r)⁻¹ : ℝ) : EReal)) = _
      rw [if_neg hr.not_gt, if_neg hr.ne']
    have e2 : Ideal.sqrt (r : EReal) = ((Real.sqrt r : ℝ) : EReal) := by
      show (if r < 0 then ⊥ else ((Real.sqrt r : ℝ) : EReal)) = _
      rw [if_neg hr.not_gt]
    rw [e1, e2, Ideal.div, if_neg hs, EReal.coe_inv]

theorem byRsqrt_eq (g b : EReal) (h : Fin 128) : byRsqrt e g b h = bySqrt e g b h := by
  unfold byRsqrt bySqrt
  rw [mul_rsqrt _ _ (lt_of_lt_of_le eps_pos (le_add_of_nonneg_left (var_nonneg e)))]

end Cert.Proof.Norm

end
-- ==== Proof.Embed.lean ====
/-
  The sum of a token's four table rows, one entry: what both programs normalise.
-/
module

public import proofs.«01_k».proof.Proof.Ranges
public import Idealize.ShloMosaic.Lib.Pointwise

@[expose] public section

noncomputable section

namespace Cert.Proof.Embed

open Idealize.ShloMosaic
open Cert.Proof.Ranges

/-- A table of `n` rows of 128 extended reals. -/
abbrev Table (n : Nat) := (⟨2, ![n, 128]⟩ : Shape).Idx → EReal

variable {a0 a1 a2 a3 : Ids} (H : InTables a0 a1 a2 a3) (b : Fin 1024) (s : Fin 200)

/-- The rows that the four ids of token `(b, s)` name. -/
def wordRow : Fin 100000 := ⟨(a0 (ix2 b s)).toNat, H.word _⟩
def ageRow : Fin 120 := ⟨(a1 (ix2 b s)).toNat, H.age _⟩
def segRow : Fin 2 := ⟨(a2 (ix2 b s)).toNat, H.seg _⟩
def posiRow : Fin 512 := ⟨(a3 (ix2 b s)).toNat, H.posi _⟩

def sum (word : Table 100000) (seg : Table 2) (age : Table 120) (posi : Table 512) (x : Fin 128) : EReal :=
  word (ix2 (wordRow H b s) x) + age (ix2 (ageRow H b s) x) + seg (ix2 (segRow H b s) x) + posi (ix2 (posiRow H b s) x)

end Cert.Proof.Embed

end
-- ==== Proof.RefValue.lean ====
/-
  The reference's result, read one entry at a time.
-/
module

public import proofs.«01_k».proof.Proof.Gen.ReferenceIdeal.Run
public import proofs.«01_k».proof.Proof.Take
public import proofs.«01_k».proof.Proof.Norm
public import proofs.«01_k».proof.Proof.Embed

@[expose] public section

set_option maxRecDepth 16384

noncomputable section

namespace Cert.Proof.RefValue

open Idealize.ShloMosaic Idealize.SL.Sem
open Cert.ReferenceIdeal Cert.ReferenceIdeal.Gen

variable {F : FTy → Type} [FloatOps F]

/-- The ids as row numbers: one below zero counts from the table's end. -/
def rowsOf (n : BitVec 32) (ids : IVec S1024x200 32) : IVec S1024x200x1 32 :=
  broadcastInDim S1024x200x1 ![0, 1] bcast_S1024x200_S1024x200x1_0_1
    (select (cmpi .slt ids (broadcastInDim S1024x200 ![] bcast_S_S1024x200 (constantI S_ 32 0#32)))
      (addi ids (broadcastInDim S1024x200 ![] bcast_S_S1024x200 (constantI S_ 32 n))) ids)

/-- Which row numbers are rows of a table whose last row is `last`. -/
def inTable (last : BitVec 32) (rows : IVec S1024x200x1 32) : IVec S1024x200 1 :=
  Host.reduce IntOp.andi
    (andi (cmpi .sge rows (broadcastInDim S1024x200x1 ![] bcast_S_S1024x200x1 (constantI S_ 32 0#32)))
      (cmpi .sle rows (broadcastInDim S1024x200x1 ![0, 1, 2] bcast_S1x1x1_S1024x200x1_0_1_2 (broadcastInDim S1x1x1 ![2] bcast_S1_S1x1x1_2 (constantI S1 32 last)))))
    (constantI S_ 1 1#1) reducesTo_S1024x200x1_S1024x200_d2 h_S_

/-- The rows read where the row number is one, the not-a-number pattern elsewhere. -/
def guarded (ok : IVec S1024x200 1) (x : FVec F S1024x200x128 .f32) : FVec F S1024x200x128 .f32 :=
  select (broadcastInDim S1024x200x128 ![0, 1] bcast_S1024x200_S1024x200x128_0_1 ok) x
    (broadcastInDim S1024x200x128 ![] bcast_S_S1024x200x128 (constant S_ .f32 0x7FC00000#32))

/-- The four embeddings' sum. -/
def embed (a0 a1 a2 a3 : IVec S1024x200 32) (a4 : FVec F S100000x128 .f32) (a5 : FVec F S2x128 .f32) (a6 : FVec F S120x128 .f32)
    (a7 : FVec F S512x128 .f32) : FVec F S1024x200x128 .f32 :=
  addf (addf (addf
    (guarded (inTable 99999#32 (rowsOf 100000#32 a0)) (Host.gather gather_S100000x128_S1024x200x1_S1024x200x128_2_0_n_n_0_2_1128 a4 (rowsOf 100000#32 a0)))
    (guarded (inTable 119#32 (rowsOf 120#32 a1)) (Host.gather gather_S120x128_S1024x200x1_S1024x200x128_2_0_n_n_0_2_1128 a6 (rowsOf 120#32 a1))))
    (guarded (inTable 1#32 (rowsOf 2#32 a2)) (Host.gather gather_S2x128_S1024x200x1_S1024x200x128_2_0_n_n_0_2_1128 a5 (rowsOf 2#32 a2))))
    (guarded (inTable 511#32 (rowsOf 512#32 a3)) (Host.gather gather_S512x128_S1024x200x1_S1024x200x128_2_0_n_n_0_2_1128 a7 (rowsOf 512#32 a3)))

/-- The rows' means, kept as a column. -/
def rowMean (e : FVec F S1024x200x128 .f32) : FVec F S1024x200x1 .f32 :=
  Host.divf (broadcastInDim S1024x200x1 ![0, 1] bcast_S1024x200_S1024x200x1_0_1
      (Host.reduceAdd e (constant S_ .f32 0x00000000#32) reducesTo_S1024x200x128_S1024x200_d2 h_S_))
    (broadcastInDim S1024x200x1 ![] bcast_S_S1024x200x1 (constant S_ .f32 0x43000000#32))

/-- The rows less their means. -/
def centred (e : FVec F S1024x200x128 .f32) : FVec F S1024x200x128 .f32 :=
  subf e (broadcastInDim S1024x200x128 ![0, 1, 2] bcast_S1024x200x1_S1024x200x128_0_1_2 (rowMean e))

/-- The layer norm over the square root of the variance. -/
def normed (e : FVec F S1024x200x128 .f32) (g b : FVec F S128 .f32) : FVec F S1024x200x128 .f32 :=
  addf (mulf (Host.divf (centred e) (broadcastInDim S1024x200x128 ![0, 1, 2] bcast_S1024x200x1_S1024x200x128_0_1_2
      (Host.sqrt (addf (rowMean (mulf (centred e) (centred e))) (broadcastInDim S1024x200x1 ![] bcast_S_S1024x200x1 (constant S_ .f32 0x2B8CBCCC#32))))))
    (broadcastInDim S1024x200x128 ![0, 1, 2] bcast_S1x1x128_S1024x200x128_0_1_2 (broadcastInDim S1x1x128 ![2] bcast_S128_S1x1x128_2 g)))
    (broadcastInDim S1024x200x128 ![0, 1, 2] bcast_S1x1x128_S1024x200x128_0_1_2 (broadcastInDim S1x1x128 ![2] bcast_S128_S1x1x128_2 b))

theorem result_eq (m : (ℓ : Loc nD τ sig) → Buf (Elt F) ℓ) (c : Dev nD) :
    Value.res_main_v30 m c
      = normed (embed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)))
        (m ((c.tc : Thread nD τ).loc main_arg8)) (m ((c.tc : Thread nD τ).loc main_arg9)) := by
  unfold Value.res_main_v30 normed centred rowMean embed guarded inTable rowsOf
  rfl

/-! ## At an entry -/

variable (b : Fin 1024) (s : Fin 200) (h : Fin 128)

theorem normed_at (e : FVec Ideal S1024x200x128 .f32) (g β : FVec Ideal S128 .f32) :
    normed e g β (ix3 b s h) = Norm.bySqrt (fun x => e (ix3 b s x)) (g (ix1 h)) (β (ix1 h)) h := by
  have hm : ∀ e : FVec Ideal S1024x200x128 .f32, rowMean e (ix3 b s 0) = Ideal.div (∑ x, e (ix3 b s x)) Norm.width := fun e => by
    pointwise [rowMean]
  have hc : ∀ x, centred e (ix3 b s x) = e (ix3 b s x) - Norm.mean (fun x => e (ix3 b s x)) := fun x => by
    pointwise [centred]
    rw [hm]; rfl
  have hv : rowMean (mulf (centred e) (centred e)) (ix3 b s 0) = Norm.var (fun x => e (ix3 b s x)) := by
    rw [hm]
    refine congrArg (fun z => Ideal.div z Norm.width) (Finset.sum_congr rfl fun x _ => ?_)
    show centred e (ix3 b s x) * centred e (ix3 b s x) = _
    rw [hc]
  pointwise [normed]
  rw [hc, hv]
  rfl

theorem rowsOf_at (n : BitVec 32) (ids : IVec S1024x200 32) (hid : (ids (ix2 b s)).toNat < 2 ^ 31) : rowsOf n ids (ix3 b s 0) = ids (ix2 b s) := by
  pointwise [rowsOf]
  exact Routing.wrap_of_lt _ _ hid

theorem test_one (x last : BitVec 32) (hl : last.toNat < 2 ^ 31) (hx : x.toNat ≤ last.toNat) :
    IntOp.andi (IntOp.cmpi CmpIPredicate.sge x 0#32) (IntOp.cmpi CmpIPredicate.sle x last) = 1#1 :=
  IntOp.andi_eq_one.2 ⟨(StableHlo.Predicate.sge_iff_toNat (by omega) (by decide)).2 (Nat.zero_le _),
    (StableHlo.Predicate.sle_iff_toNat (by omega) hl).2 hx⟩

theorem inTable_at (n last : BitVec 32) (hl : last.toNat < 2 ^ 31) (ids : IVec S1024x200 32) (hr : ∀ i, (ids i).toNat ≤ last.toNat) :
    inTable last (rowsOf n ids) (ix2 b s) = 1#1 := by
  unfold inTable
  refine Host.reduce_andi_one _ _ _ _ _ rfl fun i => ?_
  idx_vars i
  pointwise
  rw [Fin.fin_one_eq_zero i2, rowsOf_at i0 i1 n ids (by have := hr (ix2 i0 i1); omega)]
  exact test_one _ _ hl (hr _)

theorem guarded_at (ok : IVec S1024x200 1) (hok : ok (ix2 b s) = 1#1) (x : FVec Ideal S1024x200x128 .f32) : guarded ok x (ix3 b s h) = x (ix3 b s h) := by
  pointwise [guarded]
  rw [hok]; rfl

/-- One of the four reads: the table's row that the id names. -/
theorem read_at {n : Nat} (hn : n < 2 ^ 31) (nw last : BitVec 32) (hlast : last.toNat = n - 1)
    (wf : GatherDims.WF (Take.tableShape n) S1024x200x1 S1024x200x128 [2] [0] [] [0] [] 2 ![1, 128])
    (tab : FVec Ideal (Take.tableShape n) .f32) (ids : IVec S1024x200 32) (hids : ∀ i, (ids i).toNat < n) :
    guarded (inTable last (rowsOf nw ids)) (Host.gather ⟨[2], [0], [], [], [0], 2, ![1, 128], wf⟩ tab (rowsOf nw ids)) (ix3 b s h)
      = tab (ix2 ⟨(ids (ix2 b s)).toNat, hids _⟩ h) := by
  rw [guarded_at b s h _ (inTable_at b s nw last (by omega) ids fun i => by have := hids i; omega)]
  exact Take.gather_rows hn wf tab _ b s h ⟨(ids (ix2 b s)).toNat, hids _⟩ (by rw [rowsOf_at b s nw ids (by have := hids (ix2 b s); omega)])

variable {a0 a1 a2 a3 : Ranges.Ids} (H : Ranges.InTables a0 a1 a2 a3)

theorem embed_at (a4 : FVec Ideal S100000x128 .f32) (a5 : FVec Ideal S2x128 .f32) (a6 : FVec Ideal S120x128 .f32) (a7 : FVec Ideal S512x128 .f32) :
    embed a0 a1 a2 a3 a4 a5 a6 a7 (ix3 b s h) = Embed.sum H b s a4 a5 a6 a7 h := by
  have e0 := read_at b s h (n := 100000) (by omega) 100000#32 99999#32 rfl Gen.gather_S100000x128_S1024x200x1_S1024x200x128_2_0_n_n_0_2_1128_wf a4 a0 H.word
  have e1 := read_at b s h (n := 120) (by omega) 120#32 119#32 rfl Gen.gather_S120x128_S1024x200x1_S1024x200x128_2_0_n_n_0_2_1128_wf a6 a1 H.age
  have e2 := read_at b s h (n := 2) (by omega) 2#32 1#32 rfl Gen.gather_S2x128_S1024x200x1_S1024x200x128_2_0_n_n_0_2_1128_wf a5 a2 H.seg
  have e3 := read_at b s h (n := 512) (by omega) 512#32 511#32 rfl Gen.gather_S512x128_S1024x200x1_S1024x200x128_2_0_n_n_0_2_1128_wf a7 a3 H.posi
  exact congrArg₂ (· + ·) (congrArg₂ (· + ·) (congrArg₂ (· + ·) e0 e1) e2) e3

/-- The reference's result at token `(b, s)`, feature `h`. -/
theorem result_at (a4 : FVec Ideal S100000x128 .f32) (a5 : FVec Ideal S2x128 .f32) (a6 : FVec Ideal S120x128 .f32) (a7 : FVec Ideal S512x128 .f32)
    (a8 a9 : FVec Ideal S128 .f32) :
    normed (embed a0 a1 a2 a3 a4 a5 a6 a7) a8 a9 (ix3 b s h) = Norm.bySqrt (Embed.sum H b s a4 a5 a6 a7) (a8 (ix1 h)) (a9 (ix1 h)) h := by
  rw [normed_at, show (fun x => embed a0 a1 a2 a3 a4 a5 a6 a7 (ix3 b s x)) = Embed.sum H b s a4 a5 a6 a7 from funext fun x => embed_at b s x H a4 a5 a6 a7]

end Cert.Proof.RefValue

end
-- ==== Proof.AgeTable.lean ====
/-
  The age table over eight more rows: its first 120 rows are the table's.
-/
module

public import proofs.«01_k».proof.Proof.HostVals
public import Idealize.ShloMosaic.Lib.Pointwise
public import Idealize.ShloMosaic.Lib.Routing.OpsSet

@[expose] public section

set_option maxRecDepth 16384

noncomputable section

namespace Cert.Proof.AgeTable

open Idealize.ShloMosaic Idealize.SL.Sem
open Cert.KernelIdeal Cert.KernelIdeal.Gen

theorem lands (k : S120x128.Idx) (r c : Fin 128) :
    scatter_S128x128_S1_S120x128_01_n_0_0.resultIdx? k (broadcastInDim S1 ![] bcast_S_S1 (constantI S_ 32 0#32) : IVec S1 32) = some (ix2 r c)
      ↔ (k 0).val = r.val ∧ (k 1).val = c.val := by
  rw [Routing.resultIdx?_eq_some]
  have h0 : scatter_S128x128_S1_S120x128_01_n_0_0.start k (broadcastInDim S1 ![] bcast_S_S1 (constantI S_ 32 0#32) : IVec S1 32) 0
      + (scatter_S128x128_S1_S120x128_01_n_0_0.window k 0 : Int) = (k 0).val := by
    show (0 : Int) + ((k 0).val : Int) = _
    omega
  have h1 : scatter_S128x128_S1_S120x128_01_n_0_0.start k (broadcastInDim S1 ![] bcast_S_S1 (constantI S_ 32 0#32) : IVec S1 32) 1
      + (scatter_S128x128_S1_S120x128_01_n_0_0.window k 1 : Int) = (k 1).val := by
    show (0 : Int) + ((k 1).val : Int) = _
    omega
  constructor
  · intro q
    have q0 := q 0
    have q1 := q 1
    rw [h0] at q0
    rw [h1] at q1
    exact ⟨by exact_mod_cast q0, by exact_mod_cast q1⟩
  · rintro ⟨q0, q1⟩ a
    match a with
    | ⟨0, _⟩ => exact h0.trans (by exact_mod_cast q0)
    | ⟨1, _⟩ => exact h1.trans (by exact_mod_cast q1)

theorem ageTab_at (age : Vec Ideal S120x128 .f32) (r : Fin 120) (c : Fin 128) :
    Main.ageTab (F := Ideal) age (ix2 ⟨r.val, by have := r.isLt; omega⟩ c) = age (ix2 r c) := by
  unfold Main.ageTab
  refine Routing.scatter_set_hit _ _ _ _ _ _ (fun k hk => ?_) (ix2 r c) ((lands _ _ _).2 ⟨rfl, rfl⟩)
  obtain ⟨e0, e1⟩ := (lands _ _ _).1 hk
  have e : k = ix2 r c := by
    funext a
    match a with
    | ⟨0, _⟩ => exact Fin.ext e0
    | ⟨1, _⟩ => exact Fin.ext e1
  rw [e]
  rfl

end Cert.Proof.AgeTable

end
-- ==== Proof.PackedWord.lean ====
/-
  One word that carries three small ids: the position in its low nine bits, the age in the next seven, the segment above.
  Masking and shifting it gives each id back.
-/
module

public import Idealize.ShloMosaic.Lib.Pointwise

@[expose] public section

namespace Cert.Proof.PackedWord

open Idealize.ShloMosaic

/-- The word, as the kernel's host part makes it. -/
def word (age seg posi : BitVec 32) : BitVec 32 :=
  IntOp.ori (IntOp.ori posi (IntOp.shli .host age 9#32)) (IntOp.shli .host seg 16#32)

variable {age seg posi : BitVec 32}

theorem word_toNat (ha : age.toNat < 120) (hs : seg.toNat < 2) (hp : posi.toNat < 512) :
    (word age seg posi).toNat = posi.toNat + 512 * age.toNat + 65536 * seg.toNat := by
  have e1 : (age <<< 9).toNat = 512 * age.toNat := by
    rw [BitVec.toNat_shiftLeft, Nat.shiftLeft_eq]; omega
  have e2 : (seg <<< 16).toNat = 65536 * seg.toNat := by
    rw [BitVec.toNat_shiftLeft, Nat.shiftLeft_eq]; omega
  have f1 : (posi ||| age <<< 9).toNat = posi.toNat + 512 * age.toNat := by
    rw [BitVec.toNat_or, e1, Nat.or_comm, show 512 * age.toNat = 2 ^ 9 * age.toNat from rfl,
      ← Nat.two_pow_add_eq_or_of_lt (i := 9) (by omega)]
    omega
  show ((posi ||| age <<< 9) ||| seg <<< 16).toNat = _
  rw [BitVec.toNat_or, f1, e2, Nat.or_comm, show 65536 * seg.toNat = 2 ^ 16 * seg.toNat from rfl,
    ← Nat.two_pow_add_eq_or_of_lt (i := 16) (by omega)]
  omega

theorem shrsi_toNat (w : BitVec 32) (hw : w.toNat < 2 ^ 31) (n : Nat) (hn : n < 32) :
    (IntOp.shrsi ArithUnit.vector w (BitVec.ofNat 32 n)).toNat = w.toNat / 2 ^ n := by
  have hn' : (BitVec.ofNat 32 n).toNat = n := by simp; omega
  have hm : w.msb = false := by rw [BitVec.msb_eq_decide]; simpa using hw
  unfold IntOp.shrsi
  rw [if_pos (by omega), BitVec.sshiftRight', hn', BitVec.sshiftRight_eq_of_msb_false hm, BitVec.toNat_ushiftRight, Nat.shiftRight_eq_div_pow]

theorem posi_of_word (ha : age.toNat < 120) (hs : seg.toNat < 2) (hp : posi.toNat < 512) :
    IntOp.andi (word age seg posi) 511#32 = posi := by
  apply BitVec.eq_of_toNat_eq
  show ((word age seg posi) &&& 511#32).toNat = _
  rw [BitVec.toNat_and, word_toNat ha hs hp, show (511#32 : BitVec 32).toNat = 2 ^ 9 - 1 from rfl, Nat.and_two_pow_sub_one_eq_mod]
  omega

theorem age_of_word (ha : age.toNat < 120) (hs : seg.toNat < 2) (hp : posi.toNat < 512) :
    IntOp.andi (IntOp.shrsi ArithUnit.vector (word age seg posi) 9#32) 127#32 = age := by
  apply BitVec.eq_of_toNat_eq
  show ((IntOp.shrsi ArithUnit.vector (word age seg posi) 9#32) &&& 127#32).toNat = _
  rw [BitVec.toNat_and, shrsi_toNat _ (by rw [word_toNat ha hs hp]; omega) 9 (by omega), word_toNat ha hs hp,
    show (127#32 : BitVec 32).toNat = 2 ^ 7 - 1 from rfl, Nat.and_two_pow_sub_one_eq_mod]
  omega

theorem seg_of_word (ha : age.toNat < 120) (hs : seg.toNat < 2) (hp : posi.toNat < 512) :
    IntOp.andi (IntOp.shrsi ArithUnit.vector (word age seg posi) 16#32) 1#32 = seg := by
  apply BitVec.eq_of_toNat_eq
  show ((IntOp.shrsi ArithUnit.vector (word age seg posi) 16#32) &&& 1#32).toNat = _
  rw [BitVec.toNat_and, shrsi_toNat _ (by rw [word_toNat ha hs hp]; omega) 16 (by omega), word_toNat ha hs hp,
    show (1#32 : BitVec 32).toNat = 2 ^ 1 - 1 from rfl, Nat.and_two_pow_sub_one_eq_mod]
  omega

end Cert.Proof.PackedWord

end
-- ==== Proof.Pick.lean ====
/-
  Two ways the kernel picks a row: a sum over a table's rows in which all but one row is replaced by zero, and, of two rows,
  the first plus the id times their difference.
-/
module

public import Idealize.ShloMosaic.Lib.Pointwise
public import Idealize.ShloMosaic.Lib.WordArith

@[expose] public section

noncomputable section

namespace Cert.Proof.Pick

open Idealize.ShloMosaic
open scoped BigOperators

/-- A sum that keeps only the entry the word names is that entry. -/
theorem sum_select {n : Nat} (hn : n < 2 ^ 32) (w : BitVec 32) (k : Fin n) (hk : w.toNat = k.val) (f : Fin n → EReal) :
    ∑ x : Fin n, Scalar.select (IntOp.cmpi .eq (BitVec.ofNat 32 x.val) w) (f x) 0 = f k := by
  have hw : ∀ x : Fin n, IntOp.cmpi .eq (BitVec.ofNat 32 x.val) w = if x = k then 1#1 else 0#1 := fun x => by
    have hx := x.isLt
    show BitVec.ofBool (BitVec.ofNat 32 x.val == w) = _
    by_cases h : x = k
    · have e : BitVec.ofNat 32 x.val = w := BitVec.eq_of_toNat_eq (by rw [hk, ← h]; simp; omega)
      rw [if_pos h, e, beq_self_eq_true]; rfl
    · have e : BitVec.ofNat 32 x.val ≠ w := fun e => h (Fin.ext (by rw [← hk, ← e]; simp; omega))
      rw [if_neg h, beq_eq_false_iff_ne.2 e]; rfl
  rw [Finset.sum_eq_single k]
  · rw [hw, if_pos rfl]; rfl
  · intro x _ h
    rw [hw, if_neg h]; rfl
  · intro h; exact absurd (Finset.mem_univ k) h

/-- Of two rows, the first plus the id times their difference is the row the id names, where the first is a real number. -/
theorem two_rows (w : BitVec 32) (k : Fin 2) (hk : w.toNat = k.val) (f : Fin 2 → EReal) (h0 : f 0 ≠ ⊤) (h1 : f 0 ≠ ⊥) :
    f 0 + ((w.toInt : ℝ) : EReal) * (f 1 - f 0) = f k := by
  match k with
  | ⟨0, _⟩ =>
    have e : w = 0#32 := BitVec.eq_of_toNat_eq hk
    subst e
    simp
  | ⟨1, _⟩ =>
    have e : w = 1#32 := BitVec.eq_of_toNat_eq hk
    subst e
    have e1 : (((1#32 : BitVec 32).toInt : ℝ) : EReal) = 1 := by simp
    rw [e1, one_mul]
    show f 0 + (f 1 - f 0) = f 1
    lift f 0 to ℝ using ⟨h0, h1⟩ with a
    generalize f 1 = y
    induction y with
    | bot => simp
    | top => simp
    | coe r => exact_mod_cast add_sub_cancel a r

/-- What the programs' test "the absolute value is below infinity" says of an extended real. -/
theorem finite_of_test (x : Ideal .f32) (h : FloatOps.cmpf (F := Ideal) .olt (FloatOps.hostAbsf x) (FloatOps.ofBits .f32 0x7F800000#32) = 1#1) :
    (x : EReal) ≠ ⊤ ∧ (x : EReal) ≠ ⊥ := by
  have hinf : Ideal.ofBits .f32 0x7F800000#32 = ⊤ := by simp [Ideal.ofBits, Ideal.ieee]
  have h' : max (x : EReal) (-x) < ⊤ := by
    have hb : decide (max (x : EReal) (-x) < Ideal.ofBits .f32 0x7F800000#32) = true := (WordArith.ofBool_eq_one_iff _).1 h
    rw [hinf] at hb
    exact of_decide_eq_true hb
  refine ⟨fun e => ?_, fun e => ?_⟩ <;> rw [e] at h' <;> simp at h'

end Cert.Proof.Pick

end
-- ==== Proof.KerValue.lean ====
/-
  The kernel's result over the extended reals, read one entry at a time: the token's four rows, summed in the kernel's order
  and picked the kernel's way, are the rows the ids name.
-/
module

public import proofs.«01_k».proof.Proof.AgeTable
public import proofs.«01_k».proof.Proof.PackedWord
public import proofs.«01_k».proof.Proof.Pick
public import proofs.«01_k».proof.Proof.Norm
public import proofs.«01_k».proof.Proof.Embed

@[expose] public section

set_option maxRecDepth 16384

noncomputable section

namespace Cert.Proof.KerValue

open Idealize.ShloMosaic Idealize.SL.Sem
open Cert.KernelIdeal Cert.KernelIdeal.Gen
open Cert.Proof
open scoped BigOperators

/-! ## One row of the TensorCore's block -/

theorem segRow0_at (a : Vec Ideal S2x128 .f32) (h : Fin 128) : Dense.segRow0 a (ix2 0 h) = a (ix2 0 h) :=
  congrArg a (funext fun x => match x with
    | ⟨0, _⟩ => Fin.ext rfl
    | ⟨1, _⟩ => Fin.ext (by show 0 + 1 * h.val = h.val; omega))

theorem segRow1_at (a : Vec Ideal S2x128 .f32) (h : Fin 128) : Dense.segRow1 a (ix2 0 h) = a (ix2 1 h) :=
  congrArg a (funext fun x => match x with
    | ⟨0, _⟩ => Fin.ext rfl
    | ⟨1, _⟩ => Fin.ext (by show 0 + 1 * h.val = h.val; omega))

section Block

variable (ids : Vec Ideal S1x1x512 .i32) (word : Vec Ideal S512x128 .f32) (posi : Vec Ideal S512x128 .bf16) (age : Vec Ideal S128x128 .bf16)
  (seg : Vec Ideal S2x128 .f32) (gamma beta : Vec Ideal S1x128 .f32) (r : Fin 512) (h : Fin 128)

/-- The position's row, summed out of its table. -/
theorem posi_at : k1_pay4 (F := Ideal) ids posi (ix2 r h)
    = ∑ x : Fin 512, Scalar.select (IntOp.cmpi .eq (BitVec.ofNat 32 x.val) (IntOp.andi (ids (ix3 0 0 r)) 511#32)) (posi (ix2 x h) : EReal) 0 := by
  pointwise [k1_pay4, k1_pay2]

/-- The age's row, summed out of its table. -/
theorem age_at : k1_pay5 (F := Ideal) ids age (ix2 r h)
    = ∑ x : Fin 128, Scalar.select (IntOp.cmpi .eq (BitVec.ofNat 32 x.val) (IntOp.andi (IntOp.shrsi ArithUnit.vector (ids (ix3 0 0 r)) 9#32) 127#32))
        (age (ix2 x h) : EReal) 0 := by
  pointwise [k1_pay5, k1_pay2]

theorem seg_at : k1_pay3 (F := Ideal) ids (ix1 r) = IntOp.andi (IntOp.shrsi ArithUnit.vector (ids (ix3 0 0 r)) 16#32) 1#32 := by
  pointwise [k1_pay3, k1_pay2]

theorem segDiff_at (v w : Vec Ideal S1x128 .f32) : (k1_pay6 (F := Ideal) v w (ix2 0 h) : EReal) = w (ix2 0 h) - v (ix2 0 h) := by
  pointwise [k1_pay6]

/-- The sum of a token's rows before the layer norm, as the TensorCore adds it. -/
def rowSum (x : Fin 128) : EReal :=
  word (ix2 r x) + k1_pay4 (F := Ideal) ids posi (ix2 r x) + k1_pay5 (F := Ideal) ids age (ix2 r x)
    + (Dense.segRow0 seg (ix2 0 x) + FloatOps.sitofp (F := Ideal) FTy.f32 (k1_pay3 (F := Ideal) ids (ix1 r)) * k1_pay6 (F := Ideal) (Dense.segRow0 seg) (Dense.segRow1 seg) (ix2 0 x))

theorem block_at : Dense.blockVal (F := Ideal) ids word posi age seg gamma beta (ix2 r h)
    = Norm.byRsqrt (rowSum ids word posi age seg r) (gamma (ix2 0 h)) (beta (ix2 0 h)) h := by
  unfold Dense.blockVal
  have key : ∀ (v11 : IVec S512 32) (v30 v33 : FVec Ideal S512x128 .f32) (v34 v36 : FVec Ideal S1x128 .f32) (v44 : FVec Ideal S512x128 .f32) (v67 v71 : FVec Ideal S1x128 .f32),
      k1_pay1 v11 v30 v33 v34 v36 v44 v67 v71 (ix2 r h)
        = Norm.byRsqrt (fun x => (v44 (ix2 r x) : EReal) + v30 (ix2 r x) + v33 (ix2 r x) + (v34 (ix2 0 x) + FloatOps.sitofp (F := Ideal) FTy.f32 (v11 (ix1 r)) * v36 (ix2 0 x)))
            (v67 (ix2 0 h)) (v71 (ix2 0 h)) h := by
    intro v11 v30 v33 v34 v36 v44 v67 v71
    unfold Norm.byRsqrt Norm.var Norm.mean Norm.width Norm.eps
    pointwise [k1_pay1]
  exact key _ _ _ _ _ _ _ _

/-- The same sum, of the rows that the ids name. -/
theorem rowSum_at {a s p : BitVec 32} (ha : a.toNat < 120) (hs : s.toNat < 2) (hp : p.toNat < 512) (hw : ids (ix3 0 0 r) = PackedWord.word a s p)
    (h0 : ∀ x : Fin 128, (seg (ix2 0 x) : EReal) ≠ ⊤ ∧ (seg (ix2 0 x) : EReal) ≠ ⊥) :
    rowSum ids word posi age seg r h
      = (word (ix2 r h) : EReal) + posi (ix2 ⟨p.toNat, hp⟩ h) + age (ix2 ⟨a.toNat, by omega⟩ h) + seg (ix2 ⟨s.toNat, hs⟩ h) := by
  unfold rowSum
  rw [posi_at, age_at, seg_at, segDiff_at, segRow0_at, segRow1_at, hw, PackedWord.posi_of_word ha hs hp, PackedWord.age_of_word ha hs hp,
    PackedWord.seg_of_word ha hs hp, Pick.sum_select (n := 512) (by norm_num) p ⟨p.toNat, hp⟩ rfl (fun x => (posi (ix2 x h) : EReal)),
    Pick.sum_select (n := 128) (by norm_num) a ⟨a.toNat, by omega⟩ rfl (fun x => (age (ix2 x h) : EReal))]
  exact congrArg _ (Pick.two_rows s ⟨s.toNat, hs⟩ rfl (fun k => (seg (ix2 k h) : EReal)) (h0 h).1 (h0 h).2)

end Block

/-! ## The whole result -/

variable {a0 a1 a2 a3 : Ranges.Ids} (H : Ranges.InTables a0 a1 a2 a3)
  (a4 : Vec Ideal S100000x128 .f32) (a5 : Vec Ideal S2x128 .f32) (a6 : Vec Ideal S120x128 .f32) (a7 : Vec Ideal S512x128 .f32)
  (a8 a9 : Vec Ideal S128 .f32) (b : Fin 1024) (s : Fin 200) (h : Fin 128)

theorem packed_at : Main.packed (F := Ideal) a1 a2 a3 (ix2 b s) = PackedWord.word (a1 (ix2 b s)) (a2 (ix2 b s)) (a3 (ix2 b s)) := by
  pointwise [Main.packed]
  rfl

/-- Token `(b, s)`'s place in the flat order. -/
def tok : Fin 204800 := ⟨b.val * 200 + s.val, by have := b.isLt; have := s.isLt; omega⟩

theorem packed_flat (p : Vec Ideal S1024x200 .i32) (q : Fin 400) (r : Fin 512) (hqr : q.val * 512 + r.val = b.val * 200 + s.val) :
    (shapeCast S400x1x512 (shapeCast S204800 p shapeCasts_S1024x200_S204800) shapeCasts_S204800_S400x1x512 : Vec Ideal S400x1x512 .i32) (ix3 q 0 r) = p (ix2 b s) := by
  pointwise
  have := b.isLt
  have := s.isLt
  exact congrArg p (congrArg₂ ix2 (Fin.ext (by show (q.val * 512 + r.val) / 200 = _; omega)) (Fin.ext (by show (q.val * 512 + r.val) % 200 = _; omega)))

theorem ids_flat (p : Vec Ideal S1024x200 .i32) (t : Fin 204800) (ht : t.val = b.val * 200 + s.val) :
    (shapeCast S1x204800 (shapeCast S204800 p shapeCasts_S1024x200_S204800) shapeCasts_S204800_S1x204800 : Vec Ideal S1x204800 .i32) (ix2 0 t) = p (ix2 b s) := by
  pointwise
  have := b.isLt
  have := s.isLt
  exact congrArg p (congrArg₂ ix2 (Fin.ext (by show t.val / 200 = _; omega)) (Fin.ext (by show t.val % 200 = _; omega)))

theorem affine_at (a : Vec Ideal S128 .f32) : (shapeCast S1x128 a shapeCasts_S128_S1x128 : Vec Ideal S1x128 .f32) (ix2 0 h) = a (ix1 h) := by
  pointwise

/-- The kernel's result at token `(b, s)`, feature `h`. -/
theorem result_at (h0 : ∀ x : Fin 128, (a5 (ix2 0 x) : EReal) ≠ ⊤ ∧ (a5 (ix2 0 x) : EReal) ≠ ⊥) :
    Main.result (F := Ideal) a0 a1 a2 a3 a4 a5 a6 a7 a8 a9 (ix3 b s h)
      = Norm.byRsqrt (Embed.sum H b s a4 a5 a6 a7) (a8 (ix1 h)) (a9 (ix1 h)) h := by
  have hb := b.isLt
  have hs := s.isLt
  have hq : (b.val * 200 + s.val) / 512 < 400 := by omega
  have hr : (b.val * 200 + s.val) % 512 < 512 := Nat.mod_lt _ (by norm_num)
  have open_result : Main.result (F := Ideal) a0 a1 a2 a3 a4 a5 a6 a7 a8 a9 (ix3 b s h)
      = Region.dense (F := Ideal) (shapeCast S400x1x512 (shapeCast S204800 (Main.packed (F := Ideal) a1 a2 a3) shapeCasts_S1024x200_S204800) shapeCasts_S204800_S400x1x512)
          (Slots.G (F := Ideal) (shapeCast S1x204800 (shapeCast S204800 a0 shapeCasts_S1024x200_S204800) shapeCasts_S204800_S1x204800) a4)
          (truncf (F := Ideal) .bf16 (a7 : FVec Ideal S512x128 .f32) bitsLt_bf16_f32) (Main.ageTab a6) a5 (shapeCast S1x128 a8 shapeCasts_S128_S1x128) (shapeCast S1x128 a9 shapeCasts_S128_S1x128)
          (ix2 (tok b s) h) := by
    unfold Main.result
    generalize Region.dense (F := Ideal) _ _ _ _ _ _ _ = D
    pointwise
    rfl
  refine open_result.trans ?_
  refine (block_at (Region.idsBlk _ ⟨_, hq⟩) (Region.wordBlk _ ⟨_, hq⟩) _ _ a5 _ _ ⟨_, hr⟩ h).trans ?_
  rw [affine_at, affine_at]
  refine congrArg (fun e => Norm.byRsqrt e (a8 (ix1 h)) (a9 (ix1 h)) h) (funext fun x => ?_)
  have hw : Region.idsBlk (F := Ideal) (shapeCast S400x1x512 (shapeCast S204800 (Main.packed (F := Ideal) a1 a2 a3) shapeCasts_S1024x200_S204800) shapeCasts_S204800_S400x1x512)
      ⟨(b.val * 200 + s.val) / 512, hq⟩ (ix3 0 0 ⟨(b.val * 200 + s.val) % 512, hr⟩) = PackedWord.word (a1 (ix2 b s)) (a2 (ix2 b s)) (a3 (ix2 b s)) :=
    (packed_flat b s (Main.packed (F := Ideal) a1 a2 a3) ⟨_, hq⟩ ⟨_, hr⟩ (by show (b.val * 200 + s.val) / 512 * 512 + (b.val * 200 + s.val) % 512 = _; omega)).trans
      (packed_at b s)
  refine (rowSum_at _ _ _ _ _ _ x (H.age _) (H.seg _) (H.posi _) hw h0).trans ?_
  have hword : Region.wordBlk (F := Ideal) (Slots.G (F := Ideal) (shapeCast S1x204800 (shapeCast S204800 a0 shapeCasts_S1024x200_S204800) shapeCasts_S204800_S1x204800) a4)
      ⟨(b.val * 200 + s.val) / 512, hq⟩ (ix2 ⟨(b.val * 200 + s.val) % 512, hr⟩ x) = a4 (ix2 (Embed.wordRow H b s) x) := by
    have ht := ids_flat b s a0 ⟨512 * ((b.val * 200 + s.val) / 512) + (b.val * 200 + s.val) % 512, by omega⟩ (by show 512 * ((b.val * 200 + s.val) / 512) + (b.val * 200 + s.val) % 512 = _; omega)
    refine congrArg (fun k => a4 (ix2 k x)) (Fin.ext ?_)
    show (_ : BitVec 32).toNat % 100000 = (a0 (ix2 b s)).toNat
    exact (congrArg (fun w : BitVec 32 => w.toNat % 100000) ht).trans (Nat.mod_eq_of_lt (H.word _))
  have hage : (Main.ageTab (F := Ideal) a6 (ix2 ⟨(a1 (ix2 b s)).toNat, by have := H.age (ix2 b s); omega⟩ x) : EReal) = a6 (ix2 (Embed.ageRow H b s) x) :=
    AgeTable.ageTab_at a6 (Embed.ageRow H b s) x
  rw [hword, hage]
  show (a4 (ix2 (Embed.wordRow H b s) x) : EReal) + a7 (ix2 (Embed.posiRow H b s) x) + a6 (ix2 (Embed.ageRow H b s) x) + a5 (ix2 (Embed.segRow H b s) x) = Embed.sum H b s a4 a5 a6 a7 x
  unfold Embed.sum
  ac_rfl

end Cert.Proof.KerValue

end
-- ==== Proof.Algebraic.lean ====
/-
  Over the extended reals the kernel and the reference compute the same array.
-/
module

public import proofs.«01_k».proof.Defs
public import proofs.«01_k».proof.Proof.Main
public import proofs.«01_k».proof.Proof.RefValue
public import proofs.«01_k».proof.Proof.KerValue

@[expose] public section

set_option maxRecDepth 16384

noncomputable section

namespace Cert.Proof.Algebraic

open Idealize.ShloMosaic Idealize.SL.Sem Cert.Proof.Ranges Cert.Proof.Main

attribute [local instance] facts_in_tables facts_seg0_finite

/-- Where the first segment row is real, the kernel's result is the reference's. -/
theorem results_eq (a0 a1 a2 a3 : Ids) (a4 : FVec Ideal ⟨2, ![100000, 128]⟩ .f32) (a5 : FVec Ideal ⟨2, ![2, 128]⟩ .f32)
    (a6 : FVec Ideal ⟨2, ![120, 128]⟩ .f32) (a7 : FVec Ideal ⟨2, ![512, 128]⟩ .f32) (a8 a9 : FVec Ideal ⟨1, ![128]⟩ .f32)
    (h : Cert.Pre_ids_in_tables_seg0_finite.fn (F := Ideal) a0 a1 a2 a3 a4 a5 a6 a7 a8 a9 = fun _ => 1#1) :
    (RefValue.normed (RefValue.embed a0 a1 a2 a3 a4 a5 a6 a7) a8 a9 : FVec Ideal ⟨3, ![1024, 200, 128]⟩ .f32) = Main.result (F := Ideal) a0 a1 a2 a3 a4 a5 a6 a7 a8 a9 := by
  obtain ⟨H, hf⟩ := in_tables_seg0 (F := Ideal) a0 a1 a2 a3 a4 a5 a6 a7 a8 a9 h
  have h0 : ∀ x : Fin 128, (a5 (ix2 0 x) : EReal) ≠ ⊤ ∧ (a5 (ix2 0 x) : EReal) ≠ ⊥ := fun x => by
    refine Pick.finite_of_test (a5 (ix2 0 x)) ?_
    have hx := hf (ix2 0 x)
    have e : extractStridedSlice ⟨2, ![1, 128]⟩ ![0, 0] a5 facts_seg0_finite.slices_S2x128_S1x128_0_0 (ix2 0 x) = a5 (ix2 0 x) := by
      pointwise
    rw [← e]
    exact hx
  funext i
  idx_vars i
  exact (RefValue.result_at i0 i1 i2 H a4 a5 a6 a7 a8 a9).trans
    ((Norm.byRsqrt_eq _ _ _ _).symm.trans (KerValue.result_at H a4 a5 a6 a7 a8 a9 i0 i1 i2 h0).symm)

theorem algebraic : Cert.algebraic_KernelIdeal_ReferenceIdeal_pre_ids_in_tables_seg0_finite := fun m g m' g' h args => by
  refine ⟨fun c => Main.result (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run (Cert.KernelIdeal.defs (F := Ideal)) _ _).mono (fun _ hq => hq.1)
      (run_main (F := Ideal) m g fun d j => (in_tables_seg0 (F := Ideal) _ _ _ _ _ _ _ _ _ _ (h d)).1.word j)
  · refine (θ_run (Cert.ReferenceIdeal.defs (F := Ideal)) _ _).mono (fun r hr c => ⟨(hr c).1.trans ?_, (hr c).2⟩)
      (Cert.ReferenceIdeal.Value.run (F := Ideal) m' g')
    obtain ⟨e0, e1, e2, e3, e4, e5, e6, e7, e8, e9⟩ := args c
    rw [RefValue.result_eq, e0, e1, e2, e3, e4, e5, e6, e7, e8, e9]
    exact results_eq _ _ _ _ _ _ _ _ _ _ (h c)

end Cert.Proof.Algebraic

end
-- ==== Proof.lean ====
/-
  The claim: the five frames, that the kernel's idealisation rewrites nothing, and that over the extended reals the kernel and
  the reference compute the same array.
-/
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Ranges.facts_in_tables, Ranges.facts_seg0_finite,
    Frames.frame_kernel, Frames.frame_kernelIdeal, Frames.frame_kernelIdeal_seg0, Frames.frame_reference, Frames.frame_reference_seg0,
    trivial, Algebraic.algebraic⟩

end Cert.Proof

end
